-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S262144 : Shape := ⟨1, ![262144]⟩
abbrev S2048 : Shape := ⟨1, ![2048]⟩
abbrev S8192 : Shape := ⟨1, ![8192]⟩
abbrev S_ : Shape := ⟨0, ![]⟩

class Facts : Prop where
  bcast_S_S262144 : S_.BroadcastsInDim S262144 (![] : Fin 0 → Fin S262144.rank)
  bcast_S_S2048 : S_.BroadcastsInDim S2048 (![] : Fin 0 → Fin S2048.rank)

variable [Facts]

def fn {F : FTy → Type} [FloatOps F] (main_arg0 : IVec S262144 32) (main_arg1 : IVec S262144 32) (main_arg2 : IVec S2048 32) (main_arg3 : IVec S8192 32) : IVec S262144 1 × IVec S262144 1 × IVec S2048 1 :=
  let main_c : IVec S_ 32 := constantI S_ 32 0#32
  let main_v0 : IVec S262144 32 := broadcastInDim S262144 ![] bcast_S_S262144 main_c
  let main_v1 : IVec S262144 1 := cmpi .sge main_arg0 main_v0
  let main_c_0 : IVec S_ 32 := constantI S_ 32 2048#32
  let main_v2 : IVec S262144 32 := broadcastInDim S262144 ![] bcast_S_S262144 main_c_0
  let main_v3 : IVec S262144 1 := cmpi .slt main_arg0 main_v2
  let main_v4 : IVec S262144 1 := andi main_v1 main_v3
  let main_c_1 : IVec S_ 32 := constantI S_ 32 0#32
  let main_v5 : IVec S262144 32 := broadcastInDim S262144 ![] bcast_S_S262144 main_c_1
  let main_v6 : IVec S262144 1 := cmpi .sge main_arg1 main_v5
  let main_c_2 : IVec S_ 32 := constantI S_ 32 8192#32
  let main_v7 : IVec S262144 32 := broadcastInDim S262144 ![] bcast_S_S262144 main_c_2
  let main_v8 : IVec S262144 1 := cmpi .slt main_arg1 main_v7
  let main_v9 : IVec S262144 1 := andi main_v6 main_v8
  let main_c_3 : IVec S_ 32 := constantI S_ 32 0#32
  let main_v10 : IVec S2048 32 := broadcastInDim S2048 ![] bcast_S_S2048 main_c_3
  let main_v11 : IVec S2048 1 := cmpi .sge main_arg2 main_v10
  (main_v4, main_v9, main_v11)
-- ==== Kernel.lean ====
abbrev S262144 : Shape := ⟨1, ![262144]⟩
abbrev S2048 : Shape := ⟨1, ![2048]⟩
abbrev S8192 : Shape := ⟨1, ![8192]⟩
abbrev S256x1024 : Shape := ⟨2, ![256, 1024]⟩
abbrev S17039360 : Shape := ⟨1, ![17039360]⟩
abbrev S106496 : Shape := ⟨1, ![106496]⟩
abbrev S16 : Shape := ⟨1, ![16]⟩
abbrev S_ : Shape := ⟨0, ![]⟩
abbrev S8320x2048 : Shape := ⟨2, ![8320, 2048]⟩
abbrev S8192x1 : Shape := ⟨2, ![8192, 1]⟩
abbrev S1x2048 : Shape := ⟨2, ![1, 2048]⟩
abbrev S10240x2048 : Shape := ⟨2, ![10240, 2048]⟩
abbrev S512x2048 : Shape := ⟨2, ![512, 2048]⟩
abbrev S512x1 : Shape := ⟨2, ![512, 1]⟩

abbrev nBuf : Table → Nat
  | .hbm => 15
  | .local .tc .vmem => 10
  | .local .scVector .vmem => 2
  | _ => 0

abbrev bufTy : (tb : Table) → Fin (nBuf tb) → BufTy
  | .hbm, ⟨0, _⟩ => ⟨S262144, .i32⟩
  | .hbm, ⟨1, _⟩ => ⟨S262144, .i32⟩
  | .hbm, ⟨2, _⟩ => ⟨S2048, .i32⟩
  | .hbm, ⟨3, _⟩ => ⟨S8192, .i32⟩
  | .hbm, ⟨4, _⟩ => ⟨S256x1024, .i32⟩
  | .hbm, ⟨5, _⟩ => ⟨S256x1024, .i32⟩
  | .hbm, ⟨6, _⟩ => ⟨S256x1024, .i32⟩
  | .hbm, ⟨7, _⟩ => ⟨S262144, .i32⟩
  | .hbm, ⟨8, _⟩ => ⟨S17039360, .i32⟩
  | .hbm, ⟨9, _⟩ => ⟨S8320x2048, .i32⟩
  | .hbm, ⟨10, _⟩ => ⟨S8192, .f32⟩
  | .hbm, ⟨11, _⟩ => ⟨S8192x1, .f32⟩
  | .hbm, ⟨12, _⟩ => ⟨S2048, .f32⟩
  | .hbm, ⟨13, _⟩ => ⟨S1x2048, .f32⟩
  | .hbm, ⟨14, _⟩ => ⟨S10240x2048, .f32⟩
  | .local .tc .vmem, ⟨0, _⟩ => ⟨S256x1024, .i32⟩
  | .local .tc .vmem, ⟨1, _⟩ => ⟨S256x1024, .i32⟩
  | .local .tc .vmem, ⟨2, _⟩ => ⟨S256x1024, .i32⟩
  | .local .tc .vmem, ⟨3, _⟩ => ⟨S512x2048, .i32⟩
  | .local .tc .vmem, ⟨4, _⟩ => ⟨S512x2048, .i32⟩
  | .local .tc .vmem, ⟨5, _⟩ => ⟨S512x1, .f32⟩
  | .local .tc .vmem, ⟨6, _⟩ => ⟨S512x1, .f32⟩
  | .local .tc .vmem, ⟨7, _⟩ => ⟨S1x2048, .f32⟩
  | .local .tc .vmem, ⟨8, _⟩ => ⟨S512x2048, .f32⟩
  | .local .tc .vmem, ⟨9, _⟩ => ⟨S512x2048, .f32⟩
  | .local .scVector .vmem, ⟨0, _⟩ => ⟨S8192, .i32⟩
  | .local .scVector .vmem, ⟨1, _⟩ => ⟨S106496, .i32⟩
  | _, _ => ⟨S262144, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg3_1 : Ref sig .tc := ⟨.vmem, 9, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S256x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_2 : BitVec 32 := 0#32
  let c832_i32 : BitVec 32 := 832#32
  let v6 : BitVec 32 := Scalar.addi c0_i32_2 c832_i32
  let c1_i32 : BitVec 32 := 1#32
  ⟨c0_i32_2, v6, c1_i32⟩
def k1_off1 (k1_t1 : Fin k1_t1_loop.trips) (c0_i32_56 : BitVec 32) : Fin 1 → Nat :=
  let c0_i32_2 : BitVec 32 := 0#32
  let c1_i32 : BitVec 32 := 1#32
  let arg6 : BitVec 32 := Scf.iv c0_i32_2 c1_i32 k1_t1
  let c128_i32 : BitVec 32 := 128#32
  let v28 : BitVec 32 := Scalar.muli arg6 c128_i32
  let v29 : BitVec 32 := Scalar.addi v28 c0_i32_56
  let v30 : Index := Scalar.indexCast v29
  ![v30.toNat]
@[reducible] def k1_t2_loop : Scf.Loop 32 :=
  let c0_i32_5 : BitVec 32 := 0#32
  let c32_i32 : BitVec 32 := 32#32
  let v7 : BitVec 32 := Scalar.addi c0_i32_5 c32_i32
  let c1_i32_6 : BitVec 32 := 1#32
  ⟨c0_i32_5, v7, c1_i32_6⟩
def k1_off2 (k1_t2 : Fin k1_t2_loop.trips) : Fin 1 → Nat :=
  let c0_i32_5 : BitVec 32 := 0#32
  let c1_i32_6 : BitVec 32 := 1#32
  let arg6 : BitVec 32 := Scf.iv c0_i32_5 c1_i32_6 k1_t2
  let c8192_i32 : BitVec 32 := 8192#32
  let v28 : BitVec 32 := Scalar.muli arg6 c8192_i32
  ![v28.toNat]
@[reducible] def k1_t3_loop : Scf.Loop 32 :=
  let c0_i32_57 : BitVec 32 := 0#32
  let c64_i32 : BitVec 32 := 64#32
  let v29 : BitVec 32 := Scalar.addi c0_i32_57 c64_i32
  let c1_i32_58 : BitVec 32 := 1#32
  ⟨c0_i32_57, v29, c1_i32_58⟩
def k1_off3 (k1_t3 : Fin k1_t3_loop.trips) (c0_i32_60 : BitVec 32) : Fin 1 → Nat :=
  let c0_i32_57 : BitVec 32 := 0#32
  let c1_i32_58 : BitVec 32 := 1#32
  let arg7 : BitVec 32 := Scf.iv c0_i32_57 c1_i32_58 k1_t3
  let c128_i32 : BitVec 32 := 128#32
  let v30 : BitVec 32 := Scalar.muli arg7 c128_i32
  let v31 : BitVec 32 := Scalar.addi v30 c0_i32_60
  let v32 : Index := Scalar.indexCast v31
  ![v32.toNat]

def k1_chk1 (v42 : IVec S16 32) : Prop :=
  (∀ a x, ((![v42] : Fin 1 → IVec S16 32) a x).toNat < S106496.size a)
theorem k1_idx1_inb : ∀ (v42 : IVec S16 32) (k1_hw1 : k1_chk1 v42), ∀ a x, ((![v42] : Fin 1 → IVec S16 32) a x).toNat < S106496.size a := fun v42 k1_hw1 => k1_hw1

def k1_chk2 (v56 : IVec S16 32) : Prop :=
  (∀ a x, ((![v56] : Fin 1 → IVec S16 32) a x).toNat < S106496.size a)
theorem k1_idx2_inb : ∀ (v56 : IVec S16 32) (k1_hw2 : k1_chk2 v56), ∀ a x, ((![v56] : Fin 1 → IVec S16 32) a x).toNat < S106496.size a := fun v56 k1_hw2 => k1_hw2

def k1_chk3 (v70 : IVec S16 32) : Prop :=
  (∀ a x, ((![v70] : Fin 1 → IVec S16 32) a x).toNat < S106496.size a)
theorem k1_idx3_inb : ∀ (v70 : IVec S16 32) (k1_hw3 : k1_chk3 v70), ∀ a x, ((![v70] : Fin 1 → IVec S16 32) a x).toNat < S106496.size a := fun v70 k1_hw3 => k1_hw3

def k1_chk4 (v84 : IVec S16 32) : Prop :=
  (∀ a x, ((![v84] : Fin 1 → IVec S16 32) a x).toNat < S106496.size a)
theorem k1_idx4_inb : ∀ (v84 : IVec S16 32) (k1_hw4 : k1_chk4 v84), ∀ a x, ((![v84] : Fin 1 → IVec S16 32) a x).toNat < S106496.size a := fun v84 k1_hw4 => k1_hw4

def k1_chk5 (v98 : IVec S16 32) : Prop :=
  (∀ a x, ((![v98] : Fin 1 → IVec S16 32) a x).toNat < S106496.size a)
theorem k1_idx5_inb : ∀ (v98 : IVec S16 32) (k1_hw5 : k1_chk5 v98), ∀ a x, ((![v98] : Fin 1 → IVec S16 32) a x).toNat < S106496.size a := fun v98 k1_hw5 => k1_hw5

def k1_chk6 (v112 : IVec S16 32) : Prop :=
  (∀ a x, ((![v112] : Fin 1 → IVec S16 32) a x).toNat < S106496.size a)
theorem k1_idx6_inb : ∀ (v112 : IVec S16 32) (k1_hw6 : k1_chk6 v112), ∀ a x, ((![v112] : Fin 1 → IVec S16 32) a x).toNat < S106496.size a := fun v112 k1_hw6 => k1_hw6

def k1_chk7 (v126 : IVec S16 32) : Prop :=
  (∀ a x, ((![v126] : Fin 1 → IVec S16 32) a x).toNat < S106496.size a)
theorem k1_idx7_inb : ∀ (v126 : IVec S16 32) (k1_hw7 : k1_chk7 v126), ∀ a x, ((![v126] : Fin 1 → IVec S16 32) a x).toNat < S106496.size a := fun v126 k1_hw7 => k1_hw7

def k1_chk8 (v140 : IVec S16 32) : Prop :=
  (∀ a x, ((![v140] : Fin 1 → IVec S16 32) a x).toNat < S106496.size a)
theorem k1_idx8_inb : ∀ (v140 : IVec S16 32) (k1_hw8 : k1_chk8 v140), ∀ a x, ((![v140] : Fin 1 → IVec S16 32) a x).toNat < S106496.size a := fun v140 k1_hw8 => k1_hw8
def k1_off4 (i : grid1.Coords) (c0_i32_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c52_i32 : BitVec 32 := 52#32
  let v3 : BitVec 32 := Scalar.muli v1 c52_i32
  let v4 : BitVec 32 := Scalar.addi c0_i32_0 v3
  let c2048_i32 : BitVec 32 := 2048#32
  let v5 : BitVec 32 := Scalar.muli v4 c2048_i32
  ![v5.toNat]
@[reducible] def k1_t4_loop : Scf.Loop 32 :=
  let c0_i32_11 : BitVec 32 := 0#32
  let c832_i32_12 : BitVec 32 := 832#32
  let v11 : BitVec 32 := Scalar.addi c0_i32_11 c832_i32_12
  let c1_i32_13 : BitVec 32 := 1#32
  ⟨c0_i32_11, v11, c1_i32_13⟩
def k1_off5 (k1_t4 : Fin k1_t4_loop.trips) (c0_i32_56 : BitVec 32) : Fin 1 → Nat :=
  let c0_i32_11 : BitVec 32 := 0#32
  let c1_i32_13 : BitVec 32 := 1#32
  let arg6 : BitVec 32 := Scf.iv c0_i32_11 c1_i32_13 k1_t4
  let c128_i32 : BitVec 32 := 128#32
  let v28 : BitVec 32 := Scalar.muli arg6 c128_i32
  let v29 : BitVec 32 := Scalar.addi v28 c0_i32_56
  let v30 : Index := Scalar.indexCast v29
  ![v30.toNat]
@[reducible] def k1_t5_loop : Scf.Loop 32 :=
  let c0_i32_16 : BitVec 32 := 0#32
  let c32_i32_17 : BitVec 32 := 32#32
  let v12 : BitVec 32 := Scalar.addi c0_i32_16 c32_i32_17
  let c1_i32_18 : BitVec 32 := 1#32
  ⟨c0_i32_16, v12, c1_i32_18⟩
def k1_off6 (k1_t5 : Fin k1_t5_loop.trips) : Fin 1 → Nat :=
  let c0_i32_16 : BitVec 32 := 0#32
  let c1_i32_18 : BitVec 32 := 1#32
  let arg6 : BitVec 32 := Scf.iv c0_i32_16 c1_i32_18 k1_t5
  let c8192_i32 : BitVec 32 := 8192#32
  let v28 : BitVec 32 := Scalar.muli arg6 c8192_i32
  ![v28.toNat]
@[reducible] def k1_t6_loop : Scf.Loop 32 :=
  let c0_i32_57 : BitVec 32 := 0#32
  let c64_i32 : BitVec 32 := 64#32
  let v29 : BitVec 32 := Scalar.addi c0_i32_57 c64_i32
  let c1_i32_58 : BitVec 32 := 1#32
  ⟨c0_i32_57, v29, c1_i32_58⟩
def k1_off7 (k1_t6 : Fin k1_t6_loop.trips) (c0_i32_60 : BitVec 32) : Fin 1 → Nat :=
  let c0_i32_57 : BitVec 32 := 0#32
  let c1_i32_58 : BitVec 32 := 1#32
  let arg7 : BitVec 32 := Scf.iv c0_i32_57 c1_i32_58 k1_t6
  let c128_i32 : BitVec 32 := 128#32
  let v30 : BitVec 32 := Scalar.muli arg7 c128_i32
  let v31 : BitVec 32 := Scalar.addi v30 c0_i32_60
  let v32 : Index := Scalar.indexCast v31
  ![v32.toNat]

def k1_chk9 (v42 : IVec S16 32) : Prop :=
  (∀ a x, ((![v42] : Fin 1 → IVec S16 32) a x).toNat < S106496.size a)
theorem k1_idx9_inb : ∀ (v42 : IVec S16 32) (k1_hw9 : k1_chk9 v42), ∀ a x, ((![v42] : Fin 1 → IVec S16 32) a x).toNat < S106496.size a := fun v42 k1_hw9 => k1_hw9

def k1_chk10 (v56 : IVec S16 32) : Prop :=
  (∀ a x, ((![v56] : Fin 1 → IVec S16 32) a x).toNat < S106496.size a)
theorem k1_idx10_inb : ∀ (v56 : IVec S16 32) (k1_hw10 : k1_chk10 v56), ∀ a x, ((![v56] : Fin 1 → IVec S16 32) a x).toNat < S106496.size a := fun v56 k1_hw10 => k1_hw10

def k1_chk11 (v70 : IVec S16 32) : Prop :=
  (∀ a x, ((![v70] : Fin 1 → IVec S16 32) a x).toNat < S106496.size a)
theorem k1_idx11_inb : ∀ (v70 : IVec S16 32) (k1_hw11 : k1_chk11 v70), ∀ a x, ((![v70] : Fin 1 → IVec S16 32) a x).toNat < S106496.size a := fun v70 k1_hw11 => k1_hw11

def k1_chk12 (v84 : IVec S16 32) : Prop :=
  (∀ a x, ((![v84] : Fin 1 → IVec S16 32) a x).toNat < S106496.size a)
theorem k1_idx12_inb : ∀ (v84 : IVec S16 32) (k1_hw12 : k1_chk12 v84), ∀ a x, ((![v84] : Fin 1 → IVec S16 32) a x).toNat < S106496.size a := fun v84 k1_hw12 => k1_hw12

def k1_chk13 (v98 : IVec S16 32) : Prop :=
  (∀ a x, ((![v98] : Fin 1 → IVec S16 32) a x).toNat < S106496.size a)
theorem k1_idx13_inb : ∀ (v98 : IVec S16 32) (k1_hw13 : k1_chk13 v98), ∀ a x, ((![v98] : Fin 1 → IVec S16 32) a x).toNat < S106496.size a := fun v98 k1_hw13 => k1_hw13

def k1_chk14 (v112 : IVec S16 32) : Prop :=
  (∀ a x, ((![v112] : Fin 1 → IVec S16 32) a x).toNat < S106496.size a)
theorem k1_idx14_inb : ∀ (v112 : IVec S16 32) (k1_hw14 : k1_chk14 v112), ∀ a x, ((![v112] : Fin 1 → IVec S16 32) a x).toNat < S106496.size a := fun v112 k1_hw14 => k1_hw14

def k1_chk15 (v126 : IVec S16 32) : Prop :=
  (∀ a x, ((![v126] : Fin 1 → IVec S16 32) a x).toNat < S106496.size a)
theorem k1_idx15_inb : ∀ (v126 : IVec S16 32) (k1_hw15 : k1_chk15 v126), ∀ a x, ((![v126] : Fin 1 → IVec S16 32) a x).toNat < S106496.size a := fun v126 k1_hw15 => k1_hw15

def k1_chk16 (v140 : IVec S16 32) : Prop :=
  (∀ a x, ((![v140] : Fin 1 → IVec S16 32) a x).toNat < S106496.size a)
theorem k1_idx16_inb : ∀ (v140 : IVec S16 32) (k1_hw16 : k1_chk16 v140), ∀ a x, ((![v140] : Fin 1 → IVec S16 32) a x).toNat < S106496.size a := fun v140 k1_hw16 => k1_hw16
@[reducible] def k1_t7_loop : Scf.Loop 32 :=
  let c0_i32_23 : BitVec 32 := 0#32
  let c832_i32_24 : BitVec 32 := 832#32
  let v16 : BitVec 32 := Scalar.addi c0_i32_23 c832_i32_24
  let c1_i32_25 : BitVec 32 := 1#32
  ⟨c0_i32_23, v16, c1_i32_25⟩
def k1_off8 (k1_t7 : Fin k1_t7_loop.trips) (c0_i32_56 : BitVec 32) : Fin 1 → Nat :=
  let c0_i32_23 : BitVec 32 := 0#32
  let c1_i32_25 : BitVec 32 := 1#32
  let arg6 : BitVec 32 := Scf.iv c0_i32_23 c1_i32_25 k1_t7
  let c128_i32 : BitVec 32 := 128#32
  let v28 : BitVec 32 := Scalar.muli arg6 c128_i32
  let v29 : BitVec 32 := Scalar.addi v28 c0_i32_56
  let v30 : Index := Scalar.indexCast v29
  ![v30.toNat]
@[reducible] def k1_t8_loop : Scf.Loop 32 :=
  let c0_i32_28 : BitVec 32 := 0#32
  let c32_i32_29 : BitVec 32 := 32#32
  let v17 : BitVec 32 := Scalar.addi c0_i32_28 c32_i32_29
  let c1_i32_30 : BitVec 32 := 1#32
  ⟨c0_i32_28, v17, c1_i32_30⟩
def k1_off9 (k1_t8 : Fin k1_t8_loop.trips) : Fin 1 → Nat :=
  let c0_i32_28 : BitVec 32 := 0#32
  let c1_i32_30 : BitVec 32 := 1#32
  let arg6 : BitVec 32 := Scf.iv c0_i32_28 c1_i32_30 k1_t8
  let c8192_i32 : BitVec 32 := 8192#32
  let v28 : BitVec 32 := Scalar.muli arg6 c8192_i32
  ![v28.toNat]
@[reducible] def k1_t9_loop : Scf.Loop 32 :=
  let c0_i32_57 : BitVec 32 := 0#32
  let c64_i32 : BitVec 32 := 64#32
  let v29 : BitVec 32 := Scalar.addi c0_i32_57 c64_i32
  let c1_i32_58 : BitVec 32 := 1#32
  ⟨c0_i32_57, v29, c1_i32_58⟩
def k1_off10 (k1_t9 : Fin k1_t9_loop.trips) (c0_i32_60 : BitVec 32) : Fin 1 → Nat :=
  let c0_i32_57 : BitVec 32 := 0#32
  let c1_i32_58 : BitVec 32 := 1#32
  let arg7 : BitVec 32 := Scf.iv c0_i32_57 c1_i32_58 k1_t9
  let c128_i32 : BitVec 32 := 128#32
  let v30 : BitVec 32 := Scalar.muli arg7 c128_i32
  let v31 : BitVec 32 := Scalar.addi v30 c0_i32_60
  let v32 : Index := Scalar.indexCast v31
  ![v32.toNat]

def k1_chk17 (v42 : IVec S16 32) : Prop :=
  (∀ a x, ((![v42] : Fin 1 → IVec S16 32) a x).toNat < S106496.size a)
theorem k1_idx17_inb : ∀ (v42 : IVec S16 32) (k1_hw17 : k1_chk17 v42), ∀ a x, ((![v42] : Fin 1 → IVec S16 32) a x).toNat < S106496.size a := fun v42 k1_hw17 => k1_hw17

def k1_chk18 (v56 : IVec S16 32) : Prop :=
  (∀ a x, ((![v56] : Fin 1 → IVec S16 32) a x).toNat < S106496.size a)
theorem k1_idx18_inb : ∀ (v56 : IVec S16 32) (k1_hw18 : k1_chk18 v56), ∀ a x, ((![v56] : Fin 1 → IVec S16 32) a x).toNat < S106496.size a := fun v56 k1_hw18 => k1_hw18

def k1_chk19 (v70 : IVec S16 32) : Prop :=
  (∀ a x, ((![v70] : Fin 1 → IVec S16 32) a x).toNat < S106496.size a)
theorem k1_idx19_inb : ∀ (v70 : IVec S16 32) (k1_hw19 : k1_chk19 v70), ∀ a x, ((![v70] : Fin 1 → IVec S16 32) a x).toNat < S106496.size a := fun v70 k1_hw19 => k1_hw19

def k1_chk20 (v84 : IVec S16 32) : Prop :=
  (∀ a x, ((![v84] : Fin 1 → IVec S16 32) a x).toNat < S106496.size a)
theorem k1_idx20_inb : ∀ (v84 : IVec S16 32) (k1_hw20 : k1_chk20 v84), ∀ a x, ((![v84] : Fin 1 → IVec S16 32) a x).toNat < S106496.size a := fun v84 k1_hw20 => k1_hw20

def k1_chk21 (v98 : IVec S16 32) : Prop :=
  (∀ a x, ((![v98] : Fin 1 → IVec S16 32) a x).toNat < S106496.size a)
theorem k1_idx21_inb : ∀ (v98 : IVec S16 32) (k1_hw21 : k1_chk21 v98), ∀ a x, ((![v98] : Fin 1 → IVec S16 32) a x).toNat < S106496.size a := fun v98 k1_hw21 => k1_hw21

def k1_chk22 (v112 : IVec S16 32) : Prop :=
  (∀ a x, ((![v112] : Fin 1 → IVec S16 32) a x).toNat < S106496.size a)
theorem k1_idx22_inb : ∀ (v112 : IVec S16 32) (k1_hw22 : k1_chk22 v112), ∀ a x, ((![v112] : Fin 1 → IVec S16 32) a x).toNat < S106496.size a := fun v112 k1_hw22 => k1_hw22

def k1_chk23 (v126 : IVec S16 32) : Prop :=
  (∀ a x, ((![v126] : Fin 1 → IVec S16 32) a x).toNat < S106496.size a)
theorem k1_idx23_inb : ∀ (v126 : IVec S16 32) (k1_hw23 : k1_chk23 v126), ∀ a x, ((![v126] : Fin 1 → IVec S16 32) a x).toNat < S106496.size a := fun v126 k1_hw23 => k1_hw23

def k1_chk24 (v140 : IVec S16 32) : Prop :=
  (∀ a x, ((![v140] : Fin 1 → IVec S16 32) a x).toNat < S106496.size a)
theorem k1_idx24_inb : ∀ (v140 : IVec S16 32) (k1_hw24 : k1_chk24 v140), ∀ a x, ((![v140] : Fin 1 → IVec S16 32) a x).toNat < S106496.size a := fun v140 k1_hw24 => k1_hw24
@[reducible] def k1_t10_loop : Scf.Loop 32 :=
  let c0_i32_35 : BitVec 32 := 0#32
  let c832_i32_36 : BitVec 32 := 832#32
  let v21 : BitVec 32 := Scalar.addi c0_i32_35 c832_i32_36
  let c1_i32_37 : BitVec 32 := 1#32
  ⟨c0_i32_35, v21, c1_i32_37⟩
def k1_off11 (k1_t10 : Fin k1_t10_loop.trips) (c0_i32_56 : BitVec 32) : Fin 1 → Nat :=
  let c0_i32_35 : BitVec 32 := 0#32
  let c1_i32_37 : BitVec 32 := 1#32
  let arg6 : BitVec 32 := Scf.iv c0_i32_35 c1_i32_37 k1_t10
  let c128_i32 : BitVec 32 := 128#32
  let v28 : BitVec 32 := Scalar.muli arg6 c128_i32
  let v29 : BitVec 32 := Scalar.addi v28 c0_i32_56
  let v30 : Index := Scalar.indexCast v29
  ![v30.toNat]
@[reducible] def k1_t11_loop : Scf.Loop 32 :=
  let c0_i32_40 : BitVec 32 := 0#32
  let c32_i32_41 : BitVec 32 := 32#32
  let v22 : BitVec 32 := Scalar.addi c0_i32_40 c32_i32_41
  let c1_i32_42 : BitVec 32 := 1#32
  ⟨c0_i32_40, v22, c1_i32_42⟩
def k1_off12 (k1_t11 : Fin k1_t11_loop.trips) : Fin 1 → Nat :=
  let c0_i32_40 : BitVec 32 := 0#32
  let c1_i32_42 : BitVec 32 := 1#32
  let arg6 : BitVec 32 := Scf.iv c0_i32_40 c1_i32_42 k1_t11
  let c8192_i32 : BitVec 32 := 8192#32
  let v28 : BitVec 32 := Scalar.muli arg6 c8192_i32
  ![v28.toNat]
@[reducible] def k1_t12_loop : Scf.Loop 32 :=
  let c0_i32_57 : BitVec 32 := 0#32
  let c64_i32 : BitVec 32 := 64#32
  let v29 : BitVec 32 := Scalar.addi c0_i32_57 c64_i32
  let c1_i32_58 : BitVec 32 := 1#32
  ⟨c0_i32_57, v29, c1_i32_58⟩
def k1_off13 (k1_t12 : Fin k1_t12_loop.trips) (c0_i32_60 : BitVec 32) : Fin 1 → Nat :=
  let c0_i32_57 : BitVec 32 := 0#32
  let c1_i32_58 : BitVec 32 := 1#32
  let arg7 : BitVec 32 := Scf.iv c0_i32_57 c1_i32_58 k1_t12
  let c128_i32 : BitVec 32 := 128#32
  let v30 : BitVec 32 := Scalar.muli arg7 c128_i32
  let v31 : BitVec 32 := Scalar.addi v30 c0_i32_60
  let v32 : Index := Scalar.indexCast v31
  ![v32.toNat]

def k1_chk25 (v42 : IVec S16 32) : Prop :=
  (∀ a x, ((![v42] : Fin 1 → IVec S16 32) a x).toNat < S106496.size a)
theorem k1_idx25_inb : ∀ (v42 : IVec S16 32) (k1_hw25 : k1_chk25 v42), ∀ a x, ((![v42] : Fin 1 → IVec S16 32) a x).toNat < S106496.size a := fun v42 k1_hw25 => k1_hw25

def k1_chk26 (v56 : IVec S16 32) : Prop :=
  (∀ a x, ((![v56] : Fin 1 → IVec S16 32) a x).toNat < S106496.size a)
theorem k1_idx26_inb : ∀ (v56 : IVec S16 32) (k1_hw26 : k1_chk26 v56), ∀ a x, ((![v56] : Fin 1 → IVec S16 32) a x).toNat < S106496.size a := fun v56 k1_hw26 => k1_hw26

def k1_chk27 (v70 : IVec S16 32) : Prop :=
  (∀ a x, ((![v70] : Fin 1 → IVec S16 32) a x).toNat < S106496.size a)
theorem k1_idx27_inb : ∀ (v70 : IVec S16 32) (k1_hw27 : k1_chk27 v70), ∀ a x, ((![v70] : Fin 1 → IVec S16 32) a x).toNat < S106496.size a := fun v70 k1_hw27 => k1_hw27

def k1_chk28 (v84 : IVec S16 32) : Prop :=
  (∀ a x, ((![v84] : Fin 1 → IVec S16 32) a x).toNat < S106496.size a)
theorem k1_idx28_inb : ∀ (v84 : IVec S16 32) (k1_hw28 : k1_chk28 v84), ∀ a x, ((![v84] : Fin 1 → IVec S16 32) a x).toNat < S106496.size a := fun v84 k1_hw28 => k1_hw28

def k1_chk29 (v98 : IVec S16 32) : Prop :=
  (∀ a x, ((![v98] : Fin 1 → IVec S16 32) a x).toNat < S106496.size a)
theorem k1_idx29_inb : ∀ (v98 : IVec S16 32) (k1_hw29 : k1_chk29 v98), ∀ a x, ((![v98] : Fin 1 → IVec S16 32) a x).toNat < S106496.size a := fun v98 k1_hw29 => k1_hw29

def k1_chk30 (v112 : IVec S16 32) : Prop :=
  (∀ a x, ((![v112] : Fin 1 → IVec S16 32) a x).toNat < S106496.size a)
theorem k1_idx30_inb : ∀ (v112 : IVec S16 32) (k1_hw30 : k1_chk30 v112), ∀ a x, ((![v112] : Fin 1 → IVec S16 32) a x).toNat < S106496.size a := fun v112 k1_hw30 => k1_hw30

def k1_chk31 (v126 : IVec S16 32) : Prop :=
  (∀ a x, ((![v126] : Fin 1 → IVec S16 32) a x).toNat < S106496.size a)
theorem k1_idx31_inb : ∀ (v126 : IVec S16 32) (k1_hw31 : k1_chk31 v126), ∀ a x, ((![v126] : Fin 1 → IVec S16 32) a x).toNat < S106496.size a := fun v126 k1_hw31 => k1_hw31

def k1_chk32 (v140 : IVec S16 32) : Prop :=
  (∀ a x, ((![v140] : Fin 1 → IVec S16 32) a x).toNat < S106496.size a)
theorem k1_idx32_inb : ∀ (v140 : IVec S16 32) (k1_hw32 : k1_chk32 v140), ∀ a x, ((![v140] : Fin 1 → IVec S16 32) a x).toNat < S106496.size a := fun v140 k1_hw32 => k1_hw32
@[reducible] def k1_t13_loop : Scf.Loop 32 :=
  let c0_i32_47 : BitVec 32 := 0#32
  let c832_i32_48 : BitVec 32 := 832#32
  let v26 : BitVec 32 := Scalar.addi c0_i32_47 c832_i32_48
  let c1_i32_49 : BitVec 32 := 1#32
  ⟨c0_i32_47, v26, c1_i32_49⟩
def k1_off14 (k1_t13 : Fin k1_t13_loop.trips) (c0_i32_56 : BitVec 32) : Fin 1 → Nat :=
  let c0_i32_47 : BitVec 32 := 0#32
  let c1_i32_49 : BitVec 32 := 1#32
  let arg6 : BitVec 32 := Scf.iv c0_i32_47 c1_i32_49 k1_t13
  let c128_i32 : BitVec 32 := 128#32
  let v28 : BitVec 32 := Scalar.muli arg6 c128_i32
  let v29 : BitVec 32 := Scalar.addi v28 c0_i32_56
  let v30 : Index := Scalar.indexCast v29
  ![v30.toNat]
@[reducible] def k1_t14_loop : Scf.Loop 32 :=
  let c0_i32_52 : BitVec 32 := 0#32
  let c32_i32_53 : BitVec 32 := 32#32
  let v27 : BitVec 32 := Scalar.addi c0_i32_52 c32_i32_53
  let c1_i32_54 : BitVec 32 := 1#32
  ⟨c0_i32_52, v27, c1_i32_54⟩
def k1_off15 (k1_t14 : Fin k1_t14_loop.trips) : Fin 1 → Nat :=
  let c0_i32_52 : BitVec 32 := 0#32
  let c1_i32_54 : BitVec 32 := 1#32
  let arg6 : BitVec 32 := Scf.iv c0_i32_52 c1_i32_54 k1_t14
  let c8192_i32 : BitVec 32 := 8192#32
  let v28 : BitVec 32 := Scalar.muli arg6 c8192_i32
  ![v28.toNat]
@[reducible] def k1_t15_loop : Scf.Loop 32 :=
  let c0_i32_57 : BitVec 32 := 0#32
  let c64_i32 : BitVec 32 := 64#32
  let v29 : BitVec 32 := Scalar.addi c0_i32_57 c64_i32
  let c1_i32_58 : BitVec 32 := 1#32
  ⟨c0_i32_57, v29, c1_i32_58⟩
def k1_off16 (k1_t15 : Fin k1_t15_loop.trips) (c0_i32_60 : BitVec 32) : Fin 1 → Nat :=
  let c0_i32_57 : BitVec 32 := 0#32
  let c1_i32_58 : BitVec 32 := 1#32
  let arg7 : BitVec 32 := Scf.iv c0_i32_57 c1_i32_58 k1_t15
  let c128_i32 : BitVec 32 := 128#32
  let v30 : BitVec 32 := Scalar.muli arg7 c128_i32
  let v31 : BitVec 32 := Scalar.addi v30 c0_i32_60
  let v32 : Index := Scalar.indexCast v31
  ![v32.toNat]

def k1_chk33 (v42 : IVec S16 32) : Prop :=
  (∀ a x, ((![v42] : Fin 1 → IVec S16 32) a x).toNat < S106496.size a)
theorem k1_idx33_inb : ∀ (v42 : IVec S16 32) (k1_hw33 : k1_chk33 v42), ∀ a x, ((![v42] : Fin 1 → IVec S16 32) a x).toNat < S106496.size a := fun v42 k1_hw33 => k1_hw33

def k1_chk34 (v56 : IVec S16 32) : Prop :=
  (∀ a x, ((![v56] : Fin 1 → IVec S16 32) a x).toNat < S106496.size a)
theorem k1_idx34_inb : ∀ (v56 : IVec S16 32) (k1_hw34 : k1_chk34 v56), ∀ a x, ((![v56] : Fin 1 → IVec S16 32) a x).toNat < S106496.size a := fun v56 k1_hw34 => k1_hw34

def k1_chk35 (v70 : IVec S16 32) : Prop :=
  (∀ a x, ((![v70] : Fin 1 → IVec S16 32) a x).toNat < S106496.size a)
theorem k1_idx35_inb : ∀ (v70 : IVec S16 32) (k1_hw35 : k1_chk35 v70), ∀ a x, ((![v70] : Fin 1 → IVec S16 32) a x).toNat < S106496.size a := fun v70 k1_hw35 => k1_hw35

def k1_chk36 (v84 : IVec S16 32) : Prop :=
  (∀ a x, ((![v84] : Fin 1 → IVec S16 32) a x).toNat < S106496.size a)
theorem k1_idx36_inb : ∀ (v84 : IVec S16 32) (k1_hw36 : k1_chk36 v84), ∀ a x, ((![v84] : Fin 1 → IVec S16 32) a x).toNat < S106496.size a := fun v84 k1_hw36 => k1_hw36

def k1_chk37 (v98 : IVec S16 32) : Prop :=
  (∀ a x, ((![v98] : Fin 1 → IVec S16 32) a x).toNat < S106496.size a)
theorem k1_idx37_inb : ∀ (v98 : IVec S16 32) (k1_hw37 : k1_chk37 v98), ∀ a x, ((![v98] : Fin 1 → IVec S16 32) a x).toNat < S106496.size a := fun v98 k1_hw37 => k1_hw37

def k1_chk38 (v112 : IVec S16 32) : Prop :=
  (∀ a x, ((![v112] : Fin 1 → IVec S16 32) a x).toNat < S106496.size a)
theorem k1_idx38_inb : ∀ (v112 : IVec S16 32) (k1_hw38 : k1_chk38 v112), ∀ a x, ((![v112] : Fin 1 → IVec S16 32) a x).toNat < S106496.size a := fun v112 k1_hw38 => k1_hw38

def k1_chk39 (v126 : IVec S16 32) : Prop :=
  (∀ a x, ((![v126] : Fin 1 → IVec S16 32) a x).toNat < S106496.size a)
theorem k1_idx39_inb : ∀ (v126 : IVec S16 32) (k1_hw39 : k1_chk39 v126), ∀ a x, ((![v126] : Fin 1 → IVec S16 32) a x).toNat < S106496.size a := fun v126 k1_hw39 => k1_hw39

def k1_chk40 (v140 : IVec S16 32) : Prop :=
  (∀ a x, ((![v140] : Fin 1 → IVec S16 32) a x).toNat < S106496.size a)
theorem k1_idx40_inb : ∀ (v140 : IVec S16 32) (k1_hw40 : k1_chk40 v140), ∀ a x, ((![v140] : Fin 1 → IVec S16 32) a x).toNat < S106496.size a := fun v140 k1_hw40 => k1_hw40
abbrev grid2 : Pipeline.Grid := ⟨1, ![20], ![false]⟩

def k2_cond1 (i : grid2.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k2_cond2 (i : grid2.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc2_transform_0 (i : grid2.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144 : Shape := ⟨1, ![262144]⟩
abbrev S2048 : Shape := ⟨1, ![2048]⟩
abbrev S8192 : Shape := ⟨1, ![8192]⟩
abbrev S_ : Shape := ⟨0, ![]⟩
abbrev S10240x2048 : Shape := ⟨2, ![10240, 2048]⟩
abbrev S262144x1 : Shape := ⟨2, ![262144, 1]⟩
abbrev S262144x2 : Shape := ⟨2, ![262144, 2]⟩

abbrev nBuf : Space → Nat
  | .hbm => 79
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S2048, .i32⟩
  | .hbm, ⟨3, _⟩ => ⟨S8192, .i32⟩
  | .hbm, ⟨4, _⟩ => ⟨S_, .f32⟩
  | .hbm, ⟨5, _⟩ => ⟨S10240x2048, .f32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144, .i32⟩
  | .hbm, ⟨13, _⟩ => ⟨S262144x1, .i32⟩
  | .hbm, ⟨14, _⟩ => ⟨S262144, .i32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S262144, .i1⟩
  | .hbm, ⟨31, _⟩ => ⟨S_, .f32⟩
  | .hbm, ⟨32, _⟩ => ⟨S_, .f32⟩
  | .hbm, ⟨33, _⟩ => ⟨S262144, .f32⟩
  | .hbm, ⟨34, _⟩ => ⟨S262144, .f32⟩
  | .hbm, ⟨35, _⟩ => ⟨S262144, .f32⟩
  | .hbm, ⟨36, _⟩ => ⟨S262144, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S262144x1, .i32⟩
  | .hbm, ⟨52, _⟩ => ⟨S262144x1, .i32⟩
  | .hbm, ⟨53, _⟩ => ⟨S262144x2, .i32⟩
  | .hbm, ⟨54, _⟩ => ⟨S10240x2048, .f32⟩
  | .hbm, ⟨55, _⟩ => ⟨S_, .i32⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S_, .i32⟩
  | .hbm, ⟨60, _⟩ => ⟨S262144, .i32⟩
  | .hbm, ⟨61, _⟩ => ⟨S262144, .i1⟩
  | .hbm, ⟨62, _⟩ => ⟨S_, .i32⟩
  | .hbm, ⟨63, _⟩ => ⟨S262144, .i32⟩
  | .hbm, ⟨64, _⟩ => ⟨S262144, .i32⟩
  | .hbm, ⟨65, _⟩ => ⟨S262144, .i32⟩
  | .hbm, ⟨66, _⟩ => ⟨S_, .i32⟩
  | .hbm, ⟨67, _⟩ => ⟨S262144, .i32⟩
  | .hbm, ⟨68, _⟩ => ⟨S262144, .i1⟩
  | .hbm, ⟨69, _⟩ => ⟨S_, .i32⟩
  | .hbm, ⟨70, _⟩ => ⟨S262144, .i32⟩
  | .hbm, ⟨71, _⟩ => ⟨S262144, .i32⟩
  | .hbm, ⟨72, _⟩ => ⟨S262144, .i32⟩
  | .hbm, ⟨73, _⟩ => ⟨S262144x1, .i32⟩
  | .hbm, ⟨74, _⟩ => ⟨S262144x1, .i32⟩
  | .hbm, ⟨75, _⟩ => ⟨S262144x2, .i32⟩
  | .hbm, ⟨76, _⟩ => ⟨S_, .f32⟩
  | .hbm, ⟨77, _⟩ => ⟨S262144, .f32⟩
  | .hbm, ⟨78, _⟩ => ⟨S10240x2048, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_c_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_9 : Ref sig .tc := ⟨.hbm, 44, rfl⟩
abbrev main_v27 : Ref sig .tc := ⟨.hbm, 45, rfl⟩
abbrev main_v28 : Ref sig .tc := ⟨.hbm, 46, rfl⟩
abbrev main_c_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_11 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_c_12 : Ref sig .tc := ⟨.hbm, 59, rfl⟩
abbrev main_v37 : Ref sig .tc := ⟨.hbm, 60, rfl⟩
abbrev main_v38 : Ref sig .tc := ⟨.hbm, 61, rfl⟩
abbrev main_c_13 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_14 : Ref sig .tc := ⟨.hbm, 66, rfl⟩
abbrev main_v42 : Ref sig .tc := ⟨.hbm, 67, rfl⟩
abbrev main_v43 : Ref sig .tc := ⟨.hbm, 68, rfl⟩
abbrev main_c_15 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_16 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]
-- ==== Proof.Step.lean ====
/-
  What one vector of sixteen keys does to the histogram. The kernel subtracts the block's first cell from the keys, keeps
  the lanes that fall in the block, counts with `scan_count` how often each kept cell has occurred up to each lane and
  which lane is its last, and adds the last lane's count to the cell by one masked scatter. The theorem `storeIdx_step`:
  the histogram afterwards is the histogram before, each cell raised by the number of lanes whose key names it.
-/
module

public import proofs.«01_k».proof.Defs
public import Idealize.ShloMosaic.Lib.Exec
public import Mathlib.Algebra.BigOperators.Fin
public import Mathlib.Data.BitVec

@[expose] public section

noncomputable section

namespace Cert.Proof.Step

open Idealize.ShloMosaic Cert.KernelIdeal

variable {F : FTy → Type} [FloatOps F]

/-! ## The vectors the kernel computes from a vector of keys -/

/-- The keys relative to the block's first cell. -/
def locOf (base : BitVec 32) (v : IVec S16 32) : IVec S16 32 := subi v (broadcast S16 base)
/-- The lanes whose key falls in the block. -/
def actOf (base : BitVec 32) (v : IVec S16 32) : IVec S16 1 :=
  andi (cmpi .sge (locOf base v) (broadcast S16 0#32)) (cmpi .slt (locOf base v) (broadcast S16 106496#32))
/-- The occurrences of each kept lane's cell up to that lane. -/
def cntOf (base : BitVec 32) (v : IVec S16 32) : IVec S16 32 := (scanCount (actOf base v) (locOf base v)).2
/-- The scatter's indices: a dropped lane names cell 0. -/
def selOf (base : BitVec 32) (v : IVec S16 32) : IVec S16 32 := select (actOf base v) (locOf base v) (broadcast S16 0#32)
/-- The lanes the scatter stores: the last kept one of each cell. -/
def mskOf (base : BitVec 32) (v : IVec S16 32) : IVec S16 1 := andi (scanCount (actOf base v) (locOf base v)).1 (actOf base v)

theorem actOf_iff (base : BitVec 32) (v : IVec S16 32) (x : S16.Idx) : actOf base v x = 1 ↔ (v x - base).toNat < 106496 := by
  show BitVec.ofBool (BitVec.sle 0#32 (v x - base)) &&& BitVec.ofBool (BitVec.slt (v x - base) 106496#32) = 1 ↔ _
  generalize v x - base = w
  have hw := w.isLt
  have h1 : BitVec.sle 0#32 w = decide (0 ≤ w.toInt) := by simp [BitVec.sle]
  have h2 : BitVec.slt w 106496#32 = decide (w.toInt < 106496) := by simp [BitVec.slt]
  rw [h1, h2]
  have h3 : w.toInt = if 2 * w.toNat < 2 ^ 32 then (w.toNat : ℤ) else (w.toNat : ℤ) - (2 ^ 32 : ℕ) := BitVec.toInt_eq_toNat_cond w
  by_cases hlt : w.toNat < 106496
  · have : (0 ≤ w.toInt) ∧ w.toInt < 106496 := by rw [h3]; split <;> omega
    simp [this.1, this.2, hlt]
  · have : ¬ ((0 ≤ w.toInt) ∧ w.toInt < 106496) := by rw [h3]; split <;> omega
    by_cases ha : 0 ≤ w.toInt
    · have hb : ¬ w.toInt < 106496 := fun hb => this ⟨ha, hb⟩
      simp [ha, hb, hlt]
    · simp [ha, hlt]

theorem selOf_lt (base : BitVec 32) (v : IVec S16 32) (x : S16.Idx) : (selOf base v x).toNat < 106496 := by
  show (Scalar.select (actOf base v x) (v x - base) 0#32).toNat < _
  unfold Scalar.select
  split
  · next h => exact (actOf_iff base v x).mp h
  · decide

/-- The scatter's indices are in range, every lane's. -/
theorem selOf_inb (base : BitVec 32) (v : IVec S16 32) : ∀ a x, ((![selOf base v] : Fin 1 → IVec S16 32) a x).toNat < S106496.size a := by
  intro a x; obtain rfl : a = 0 := Subsingleton.elim _ _; exact selOf_lt base v x

/-! ## A masked scatter-add as a sum over lanes -/

/-- The scatter-add at one element: the old word, and each stored lane's value that names it, lowest lane first. -/
theorem storeIdx_foldl {s : Shape} {d : Fin 1 → Nat} (f : Vec F s .i32) (idxs : Fin s.rank → IVec ⟨1, d⟩ 32) (v : IVec ⟨1, d⟩ 32) (mask : IVec ⟨1, d⟩ 1)
    (h : ∀ a x, (idxs a x).toNat < s.size a) (j : s.Idx) :
    storeIdx (F := F) (e := .i32) f idxs v mask true h j
      = (f j : BitVec 32) + ((List.finRange (d 0)).map fun k =>
          if mask (Shape.ofLane k) = 1 ∧ ∀ a, (j a).val = (idxs a (Shape.ofLane k)).toNat then v (Shape.ofLane k) else 0#32).sum := by
  unfold storeIdx
  generalize List.finRange (d 0) = l
  induction l generalizing f with
  | nil => simp
  | cons k l ih =>
    rw [List.foldl_cons, ih, List.map_cons, List.sum_cons, ← add_assoc]
    congr 1
    by_cases hm : mask (Shape.ofLane k) = 1
    · simp only [hm, if_true, true_and]
      by_cases hj : ∀ a, (j a).val = (idxs a (Shape.ofLane k)).toNat
      · have hji : j = idxAt idxs h (Shape.ofLane k) := funext fun a => Fin.ext (hj a)
        rw [if_pos (show ∀ a, (j a).val = (idxAt idxs h (Shape.ofLane k) a).val from hj), if_pos hj]
        conv_rhs => rw [hji]
        rfl
      · rw [if_neg (show ¬ ∀ a, (j a).val = (idxAt idxs h (Shape.ofLane k) a).val from hj), if_neg hj]; exact (BitVec.add_zero (x := (f j : BitVec 32))).symm
    · simp only [hm, if_false, false_and]; exact (BitVec.add_zero (x := (f j : BitVec 32))).symm

theorem ofLane_bij : Function.Bijective (fun k : Fin 16 => (Shape.ofLane (d := ![16]) k : S16.Idx)) := by
  constructor
  · intro a b h
    have := congrArg (fun x : S16.Idx => (x 0).val) h
    exact Fin.ext this
  · intro x
    refine ⟨x 0, funext fun a => ?_⟩
    obtain rfl : a = 0 := Subsingleton.elim _ _
    rfl

theorem sum_lanes (g : S16.Idx → BitVec 32) : ((List.finRange 16).map fun k : Fin 16 => g (Shape.ofLane (d := ![16]) k)).sum = ∑ x : S16.Idx, g x := by
  rw [← List.ofFn_eq_map, List.sum_ofFn]
  exact Function.Bijective.sum_comp ofLane_bij g

/-- The scatter-add at one cell: the old word and the stored lanes' values that name it. -/
theorem storeIdx_apply (f : Vec F S106496 .i32) (ix : IVec S16 32) (v : IVec S16 32) (mask : IVec S16 1)
    (h : ∀ a x, ((![ix] : Fin 1 → IVec S16 32) a x).toNat < S106496.size a) (j : S106496.Idx) :
    storeIdx (F := F) (e := .i32) f ![ix] v mask true h j
      = (f j : BitVec 32) + ∑ x : S16.Idx, if mask x = 1 ∧ (ix x).toNat = (j 0).val then v x else 0#32 := by
  rw [storeIdx_foldl]
  refine congrArg (fun z : BitVec 32 => (f j : BitVec 32) + z) ((sum_lanes fun x => if mask x = 1 ∧ ∀ a, (j a).val = ((![ix] : Fin 1 → IVec S16 32) a x).toNat then v x else 0#32).trans ?_)
  refine Finset.sum_congr rfl fun x _ => if_congr (and_congr Iff.rfl ⟨fun hj => (hj 0).symm, fun hj a => ?_⟩) rfl rfl
  obtain rfl : a = 0 := Subsingleton.elim _ _
  exact hj.symm

/-! ## The counts of the last lanes are the numbers of lanes -/

/-- The lanes whose key names cell `n` of the block at `base`. -/
def lanes (base : BitVec 32) (v : IVec S16 32) (n : ℕ) : Finset S16.Idx :=
  Finset.univ.filter fun x => v x - base = BitVec.ofNat 32 n

theorem toNat_eq_iff {w : BitVec 32} {n : ℕ} (hn : n < 106496) : w.toNat = n ↔ w = BitVec.ofNat 32 n := by
  constructor
  · rintro rfl; simp
  · rintro rfl; simp only [BitVec.toNat_ofNat]; omega

theorem and_one_iff (a b : BitVec 1) : a &&& b = 1 ↔ a = 1 ∧ b = 1 := by revert a b; decide

theorem sum_last (base : BitVec 32) (v : IVec S16 32) (n : ℕ) (hn : n < 106496) :
    (∑ x : S16.Idx, if mskOf base v x = 1 ∧ (selOf base v x).toNat = n then cntOf base v x else 0#32)
      = BitVec.ofNat 32 (lanes base v n).card := by
  classical
  -- on a kept lane the scatter's index is the relative key
  have hsel : ∀ x, actOf base v x = 1 → selOf base v x = v x - base := fun x hx => by
    show Scalar.select (actOf base v x) (v x - base) 0#32 = _
    unfold Scalar.select; rw [if_pos hx]
  have hact : ∀ x, x ∈ lanes base v n ↔ actOf base v x = 1 ∧ (selOf base v x).toNat = n := fun x => by
    unfold lanes; rw [Finset.mem_filter, ← toNat_eq_iff hn]
    constructor
    · rintro ⟨-, hx⟩
      have ha := (actOf_iff base v x).mpr (hx ▸ hn)
      exact ⟨ha, by rw [hsel x ha]; exact hx⟩
    · rintro ⟨ha, hx⟩; exact ⟨Finset.mem_univ _, by rw [← hsel x ha]; exact hx⟩
  have hmsk : ∀ x, mskOf base v x = 1 ↔ (actOf base v x = 1 ∧ ∀ j, (S16.rowMajor x).val < (S16.rowMajor j).val → ¬ (actOf base v j = 1 ∧ locOf base v j = locOf base v x)) := fun x => by
    simp only [mskOf, scanCount, andi, IntOp.andi]
    rw [and_one_iff]
    split
    · next h => exact ⟨fun _ => h, fun _ => ⟨rfl, h.1⟩⟩
    · next h => exact ⟨fun h' => absurd h'.1 (by decide), fun h' => absurd h' h⟩
  have hloc : ∀ x, x ∈ lanes base v n ↔ locOf base v x = BitVec.ofNat 32 n := fun x => by
    unfold lanes; rw [Finset.mem_filter]; exact ⟨fun h => h.2, fun h => ⟨Finset.mem_univ _, h⟩⟩
  rcases (lanes base v n).eq_empty_or_nonempty with he | hne
  · rw [he, Finset.card_empty]
    refine Finset.sum_eq_zero fun x _ => if_neg fun ⟨hm, hx⟩ => ?_
    have : x ∈ lanes base v n := (hact x).mpr ⟨((hmsk x).mp hm).1, hx⟩
    rw [he] at this; exact absurd this (Finset.notMem_empty x)
  · obtain ⟨z, hz, hmax⟩ := Finset.exists_max_image (lanes base v n) (fun x => (S16.rowMajor x).val) hne
    have hza := (hact z).mp hz
    have hzm : mskOf base v z = 1 := (hmsk z).mpr ⟨hza.1, fun j hj hj' => by
      have hjm : j ∈ lanes base v n := (hloc j).mpr (hj'.2.trans ((hloc z).mp hz))
      exact absurd (hmax j hjm) (not_le.mpr hj)⟩
    refine (Finset.sum_eq_single z (fun b _ hb => ?_) (fun h => absurd (Finset.mem_univ z) h)).trans ?_
    · refine if_neg fun ⟨hm, hx⟩ => ?_
      have hbm : b ∈ lanes base v n := (hact b).mpr ⟨((hmsk b).mp hm).1, hx⟩
      have hle := hmax b hbm
      rcases lt_or_eq_of_le hle with hlt | heq
      · exact ((hmsk b).mp hm).2 z hlt ⟨hza.1, ((hloc z).mp hz).trans ((hloc b).mp hbm).symm⟩
      · exact hb (S16.rowMajor.injective (Fin.ext heq))
    rw [if_pos ⟨hzm, hza.2⟩]
    simp only [cntOf, scanCount]
    rw [if_pos hza.1]
    congr 2
    ext x
    rw [Finset.mem_filter]
    constructor
    · rintro ⟨-, -, -, hx⟩; exact (hloc x).mpr (hx.trans ((hloc z).mp hz))
    · intro hx; exact ⟨Finset.mem_univ _, hmax x hx, ((hact x).mp hx).1, ((hloc x).mp hx).trans ((hloc z).mp hz).symm⟩

/-- One vector of keys: each cell raised by the number of lanes that name it. -/
theorem storeIdx_step (f : Vec F S106496 .i32) (base : BitVec 32) (v : IVec S16 32)
    (h : ∀ a x, ((![selOf base v] : Fin 1 → IVec S16 32) a x).toNat < S106496.size a) :
    storeIdx (F := F) (e := .i32) f ![selOf base v] (cntOf base v) (mskOf base v) true h
      = fun j => (f j : BitVec 32) + BitVec.ofNat 32 (lanes base v (j 0).val).card := by
  funext j
  rw [storeIdx_apply, sum_last base v (j 0).val (j 0).isLt]

/-! ## The number of keys naming a cell, as the keys are read -/

/-- How many of the first `n` keys name cell `j` of the block at `base`. -/
def hits (key : ℕ → BitVec 32) (base : BitVec 32) (n j : ℕ) : ℕ :=
  ((Finset.range n).filter fun e => key e - base = BitVec.ofNat 32 j).card

theorem hits_zero (key : ℕ → BitVec 32) (base : BitVec 32) (j : ℕ) : hits key base 0 j = 0 := by
  unfold hits; rw [Finset.range_zero, Finset.filter_empty, Finset.card_empty]

/-- A block's cell counts the keys that name its place in the whole histogram. -/
theorem hits_shift (key : ℕ → BitVec 32) (base : BitVec 32) (n j : ℕ) : hits key base n j = hits key 0#32 n (base.toNat + j) := by
  unfold hits
  refine congrArg Finset.card (Finset.filter_congr fun e _ => ?_)
  have h : BitVec.ofNat 32 (base.toNat + j) = base + BitVec.ofNat 32 j := by rw [BitVec.ofNat_add, BitVec.ofNat_toNat, BitVec.setWidth_eq]
  rw [h, BitVec.sub_zero]
  constructor
  · intro h; rw [← h, BitVec.add_comm, BitVec.sub_add_cancel]
  · intro h; rw [h, BitVec.add_comm, BitVec.add_sub_cancel]

/-- Sixteen keys further: the lanes of the vector that holds them. -/
theorem hits_add (key : ℕ → BitVec 32) (base : BitVec 32) (n j : ℕ) (v : IVec S16 32)
    (hv : ∀ x : S16.Idx, v x = key (n + (x 0).val)) : hits key base (n + 16) j = hits key base n j + (lanes base v j).card := by
  classical
  unfold hits
  rw [Finset.range_eq_Ico, Finset.range_eq_Ico, ← Finset.Ico_union_Ico_eq_Ico (Nat.zero_le n) (Nat.le_add_right n 16), Finset.filter_union,
    Finset.card_union_of_disjoint (Finset.disjoint_filter_filter (Finset.Ico_disjoint_Ico_consecutive 0 n (n + 16)))]
  congr 1
  symm
  refine Finset.card_bij (fun x _ => n + (x 0).val) (fun x hx => ?_) (fun x _ y _ hxy => ?_) (fun e he => ?_)
  · unfold lanes at hx; rw [Finset.mem_filter] at hx ⊢
    have := (x 0).isLt
    refine ⟨Finset.mem_Ico.mpr ⟨Nat.le_add_right _ _, Nat.add_lt_add_left this n⟩, ?_⟩
    rw [← hv]; exact hx.2
  · funext a; obtain rfl : a = 0 := Subsingleton.elim _ _
    exact Fin.ext (Nat.add_left_cancel hxy)
  · rw [Finset.mem_filter, Finset.mem_Ico] at he
    refine ⟨fun a => ⟨e - n, by obtain rfl : a = 0 := Subsingleton.elim _ _; show e - n < 16; omega⟩, ?_, ?_⟩
    · unfold lanes; rw [Finset.mem_filter]
      refine ⟨Finset.mem_univ _, ?_⟩
      rw [hv]; show key (n + (e - n)) - base = _
      rw [Nat.add_sub_cancel' he.1.1]; exact he.2
    · show n + (e - n) = e; omega

end Cert.Proof.Step

end
-- ==== Proof.Setup.lean ====
/-
  The names the launch and the kernel bodies share: the SparseCore call as the launch theorem sees it, the ghost state
  (the handshakes' rounds beside the transfers' counters), and the arrays as locations.
-/
module

public import proofs.«01_k».proof.Defs
public import proofs.«01_k».proof.Proof.Step
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipelines' rounds, the transfers' counters -/

abbrev UH : Type := URounds (GSem nD τ sig) ℕ
abbrev UU : Type := UH × (URounds (GSem nD τ sig) Unit × Counters)

/-- The handshakes' rounds library, the left factor; the transfers' counters are found by instance in the right. -/
abbrev EH : Emb UH (MT nD τ sig (HIx 1) (Elt F) ℕ UU ℕ) := embL

/-- The pipelines' rounds library, in the middle. -/
abbrev EP : Emb (URounds (GSem nD τ sig) Unit) (MT nD τ sig (HIx 1) (Elt F) ℕ UU ℕ) :=
  (Emb.inl : Emb (URounds (GSem nD τ sig) Unit) (URounds (GSem nD τ sig) Unit × Counters)).trans embR

instance EP_landsIn : (EP (F := F)).LandsIn (upEmb : UEmb _ (MT nD τ sig (HIx 1) (Elt F) ℕ UU ℕ)) := by
  unfold EP embR
  infer_instance

/-! ## A subcore of the call's grid -/

abbrev cV (L : grid1.Coords) : Fin τ.nSC := (L 0).castLE hcore1
abbrev jV (L : grid1.Coords) : Fin τ.nSub := (L 1).castLE hsub1

/-- The keys' array and the histogram's, as locations of device `d`. -/
abbrev kLoc (d : Dev nD) : Loc nD τ sig := (SparseCore.T d).loc main_v3
abbrev hLoc (d : Dev nD) : Loc nD τ sig := (SparseCore.T d).loc main_v4

/-- The keys of an array of 262144 words, by position. -/
def keyOf (f : IVec S262144 32) (e : ℕ) : BitVec 32 := if h : e < 262144 then f (fun a => ⟨e, by obtain rfl : a = 0 := Subsingleton.elim _ _; exact h⟩) else 0#32

/-- A block of 106496 counts: cell `j` holds the number of the first `n` keys naming it. -/
def countsAt (key : ℕ → BitVec 32) (base : BitVec 32) (n : ℕ) : IVec S106496 32 :=
  fun j => BitVec.ofNat 32 (Step.hits key base n (j 0).val)

/-- The whole histogram of 262144 keys. -/
def histOf (key : ℕ → BitVec 32) : IVec S17039360 32 := fun x => BitVec.ofNat 32 (Step.hits key 0#32 262144 (x 0).val)

/-- The `t`-th run of 8192 keys. -/
def chunkAt (key : ℕ → BitVec 32) (t : ℕ) : IVec S8192 32 := fun x => key (8192 * t + (x 0).val)

end Cert.Proof

end
-- ==== Proof.Tile.lean ====
/-
  One vector subcore's task: per pass, the block of counts set to zero, the keys read chunk by chunk and counted in,
  the block written out. A pass is run once, at any base and semaphores; the five passes are that run.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "kW" => (Memref.whole Cert.KernelIdeal.main_v3_scv : Memref Cert.KernelIdeal.sig Kind.scVector Space.hbm Cert.KernelIdeal.S262144 EltTy.i32)
local notation "hW" => (Memref.whole Cert.KernelIdeal.main_v4_scv : Memref Cert.KernelIdeal.sig Kind.scVector Space.hbm Cert.KernelIdeal.S17039360 EltTy.i32)
local notation "bW" => (Memref.whole Cert.KernelIdeal.cc1_scratch0 : Memref Cert.KernelIdeal.sig Kind.scVector Space.vmem Cert.KernelIdeal.S8192 EltTy.i32)
local notation "cW" => (Memref.whole Cert.KernelIdeal.cc1_scratch1 : Memref Cert.KernelIdeal.sig Kind.scVector Space.vmem Cert.KernelIdeal.S106496 EltTy.i32)

section Tile

variable (d : Dev nD) (L : grid1.Coords)

abbrev thr : Thread nD τ := V d (cV L) (jV L)

/-- The block of counts as the scatter addresses it. -/
theorem pts_c_access (f : Buf (Elt F) ((cW).view.loc (thr d L))) :
    (((cW).access (.whole S106496)).loc (thr d L) ↦[((cW).access (.whole S106496)).set]{fullShare} f : sProp 𝕄) = (cW).view.loc (thr d L) ↦{fullShare} f := by
  have h : ((cW).access (.whole S106496)).set = Finset.univ := by
    exact Memref.set_access_whole cc1_scratch1
  rw [h]

/-- A vector's masked scatter-add, over the counts of the first `n` keys: the counts of sixteen more. -/
theorem scatter {α : Type} (key : ℕ → BitVec 32) (base : BitVec 32) (n : ℕ) (v : IVec S16 32) (hv : ∀ x : S16.Idx, v x = key (n + (x 0).val))
    (h : ∀ a x, ((![Step.selOf base v] : Fin 1 → IVec S16 32) a x).toNat < S106496.size a) (hs : ((cW).access (.whole S106496)).Stores Finset.univ)
    (k : PUnit → Prog (TpuEff nD τ sig (Elt F) Λ₀ (.scVector (cV L) (jV L))) α) (Q : α → sProp 𝕄) :
    ((cW).view.loc (thr d L) ↦{fullShare} (countsAt key base n : Buf (Elt F) ((cW).view.loc (thr d L))))
      ⊢ (iprop((((cW).view.loc (thr d L) ↦{fullShare} (countsAt key base (n + 16) : Buf (Elt F) ((cW).view.loc (thr d L))))
            -∗ wp frame (wpE (defs₀ (F := F)) 𝒱₀ (thr d L) none) Set.univ (k ⟨⟩) Q)
          -∗ wp frame (wpE (defs₀ (F := F)) 𝒱₀ (thr d L) none) Set.univ
            (SparseCore.vectorStoreIdx (F := F) cW ![Step.selOf base v] (Step.cntOf base v) (Step.mskOf base v) true h hs >>= k) Q) : sProp 𝕄) := by
  rw [← pts_c_access, ← pts_c_access]
  have hread : ((cW).access (.whole S106496)).read (Elt F) (countsAt key base n) = countsAt key base n := Memref.read_access_whole (Elt F) cc1_scratch1 _
  have hval : ((cW).access (.whole S106496)).write (Elt F) (countsAt key base n)
      (storeIdx (((cW).access (.whole S106496)).read (Elt F) (countsAt key base n)) ![Step.selOf base v] (Step.cntOf base v) (Step.mskOf base v) true h) Finset.univ
      = countsAt key base (n + 16) := by
    refine (Memref.write_access_whole_univ (Elt F) cc1_scratch1 _ _).trans ?_
    rw [hread, Step.storeIdx_step]
    funext j
    show (BitVec.ofNat 32 _ + BitVec.ofNat 32 _ : BitVec 32) = BitVec.ofNat 32 _
    rw [← BitVec.ofNat_add, Step.hits_add key base n _ v hv]
  have H := SparseCore.wp_vectorStoreIdx (F := F) (defs := defs₀ (F := F)) (𝒱 := 𝒱₀) (c := thr d L) (bd := none) (E := Set.univ) (Q := Q) (base := cW) (idxs := ![Step.selOf base v])
    (v := Step.cntOf base v) (mask := Step.mskOf base v) (add := true) (h := h) (hs := hs) (k := k) (f := countsAt key base n)
  have hp : ∀ X Y : sProp 𝕄, ∀ z w : Buf (Elt F) ((cW).view.loc (thr d L)), z = w →
      (iprop(((((cW).access (.whole S106496)).loc (thr d L) ↦[((cW).access (.whole S106496)).set]{fullShare} z) -∗ X) -∗ Y) : sProp 𝕄)
        = iprop(((((cW).access (.whole S106496)).loc (thr d L) ↦[((cW).access (.whole S106496)).set]{fullShare} w) -∗ X) -∗ Y) :=
    fun X Y z w e => by rw [e]
  exact H.trans (Entails.of_eq (hp _ _ _ _ hval))

include d L in
/-- The sixteen keys at one offset of a chunk. -/
theorem read_keys (key : ℕ → BitVec 32) (t n : ℕ) (o : Fin 1 → ℕ) (ho : o = ![n]) (hb : ∀ a, o a + S16.size a ≤ S8192.size a) (x : S16.Idx) :
    View.readAt (Elt F) (bW).view (Rect.unit (s := S8192) o S16.size hb).toLoadRect (chunkAt key t : Buf (Elt F) ((bW).view.loc (thr d L))) x
      = key (8192 * t + n + (x 0).val) := by
  subst ho
  show key (8192 * t + (n + 1 * (x 0).val)) = _
  congr 1; omega

/-- Zeros stored over a buffer: a cell is zero where it was, or where a store went. -/
theorem zero_writes {s : Shape} (v : View sig .scVector .vmem s .i32) (f : v.ty.Contents (Elt F)) (y : s.Idx) :
    ∀ W : List (View.Piece (Elt F) s .i32), (∀ p ∈ W, ∀ x, p.2 x = (0#32 : BitVec 32)) →
      (v.read (Elt F) f y = (0#32 : BitVec 32) ∨ ∃ p ∈ W, y ∈ p.1.set) → v.read (Elt F) (v.writes (Elt F) f W) y = (0#32 : BitVec 32)
  | [], _, h => h.elim id fun ⟨_, hm, _⟩ => absurd hm List.not_mem_nil
  | ⟨r, w⟩ :: W, hz, h => by
      by_cases hy : y ∈ r.set
      · obtain ⟨x, rfl⟩ := (⟨r, w⟩ : View.Piece (Elt F) s .i32).1.exists_idx_of_mem hy
        exact (View.read_writes_cons_emb v f r w W x).trans (hz _ (List.mem_cons_self ..) x)
      · rw [View.read_writes_cons_miss v f ⟨r, w⟩ W y hy]
        exact zero_writes v f y W (fun p hp => hz p (List.mem_cons_of_mem _ hp))
          (h.imp id fun ⟨p, hp, hm⟩ => ⟨p, (List.mem_cons.mp hp).resolve_left (fun e => hy (by subst e; exact hm)), hm⟩)

theorem pay_zero (x : S16.Idx) : k1_pay201 x = (0#32 : BitVec 32) := rfl

/-- A trip's stores zero the next 128 cells. -/
theorem clear_post (n : Fin k1_t1_loop.trips) (f : Buf (Elt F) ((cW).view.loc (thr d L))) (hf : ∀ j : S106496.Idx, (j 0).val < 128 * n.val → f j = (0#32 : BitVec 32))
    (W : List (View.Piece (Elt F) S106496 .i32)) (hz : ∀ p ∈ W, ∀ x, p.2 x = (0#32 : BitVec 32))
    (hcov : ∀ r : Fin 8, ∃ h : 7 - r.val < W.length, W[7 - r.val].1 = Rect.unit (s := S106496) (k1_off1 n (BitVec.ofNat 32 (16 * r.val))) S16.size (k1_off1_inb n r)) :
    ((cW).view.loc (thr d L) ↦{fullShare} ((cW).view.writes (Elt F) f W : Buf (Elt F) ((cW).view.loc (thr d L))))
      ⊢ (iprop(∃ f : Buf (Elt F) ((cW).view.loc (thr d L)), ⌜∀ j : S106496.Idx, (j 0).val < 128 * (n.val + 1) → f j = (0#32 : BitVec 32)⌝
          ∗ ((cW).view.loc (thr d L) ↦{fullShare} f)) : sProp 𝕄) := by
  iintro Hc
  iexists ((cW).view.writes (Elt F) f W)
  isplitr
  · ipureintro
    intro j hj
    refine zero_writes (F := F) (cW).view f j W hz ?_
    by_cases h : (j 0).val < 128 * n.val
    · exact .inl (hf j h)
    · right
      obtain ⟨r, h1, h2⟩ : ∃ r : Fin 8, 128 * n.val + 16 * r.val ≤ (j 0).val ∧ (j 0).val < 128 * n.val + 16 * r.val + 16 :=
        ⟨⟨((j 0).val - 128 * n.val) / 16, by omega⟩, by show 128 * n.val + 16 * (((j 0).val - 128 * n.val) / 16) ≤ _; omega,
          by show _ < 128 * n.val + 16 * (((j 0).val - 128 * n.val) / 16) + 16; omega⟩
      obtain ⟨hl, e⟩ := hcov r
      refine ⟨W[7 - r.val], List.getElem_mem hl, ?_⟩
      rw [e]
      refine (Rect.mem_set_unit (s := S106496)).mpr fun a => ?_
      obtain rfl : a = 0 := Subsingleton.elim _ _
      rw [k1_off1_eq n r]
      exact ⟨h1, h2⟩
  iexact Hc

section Sems
variable (r0 r1 r2 r3 r4 r5 r6 r7 r8 r9 : DmaSems sig S_)

/-- One trip of the counting loop: 128 keys further. -/
theorem group (key : ℕ → BitVec 32) (base : BitVec 32) (t : ℕ) (u : Fin k1_t3_loop.trips) :
    iprop(((bW).view.loc (thr d L) ↦{fullShare} (chunkAt key t : Buf (Elt F) ((bW).view.loc (thr d L))))
        ∗ ((cW).view.loc (thr d L) ↦{fullShare} (countsAt key base (8192 * t + 128 * u.val) : Buf (Elt F) ((cW).view.loc (thr d L)))))
      ⊢ (wp frame (wpE (defs₀ (F := F)) 𝒱₀ (thr d L) none) Set.univ
          (k1_t3_body (F := F) L kW (Memref.isWhole_whole _) hW (Memref.isWhole_whole _) bW (Memref.isWhole_whole _) cW (Memref.isWhole_whole _)
            r0 r1 r2 r3 r4 r5 r6 r7 r8 r9 base u ⟨⟩)
          fun _ => iprop(((bW).view.loc (thr d L) ↦{fullShare} (chunkAt key t : Buf (Elt F) ((bW).view.loc (thr d L))))
        ∗ ((cW).view.loc (thr d L) ↦{fullShare} (countsAt key base (8192 * t + 128 * (u.val + 1)) : Buf (Elt F) ((cW).view.loc (thr d L))))) : sProp 𝕄) := by
  unfold k1_t3_body
  iintro ⟨Hb, Hc⟩
  sl_exec (disch := exact Step.selOf_inb _ _)
  have hr : ∀ r : Fin 8, ∀ hb, ∀ x : S16.Idx, View.readAt (Elt F) (bW).view (Rect.unit (s := S8192) (k1_off3 u (BitVec.ofNat 32 (16 * r.val))) S16.size hb).toLoadRect
      (chunkAt key t : Buf (Elt F) ((bW).view.loc (thr d L))) x = key (8192 * t + 128 * u.val + 16 * r.val + (x 0).val) := fun r hb x => by
    rw [read_keys (F := F) d L key t _ _ (k1_off3_eq u r) hb x]; congr 1; omega
  iapply (scatter d L key base (8192 * t + 128 * u.val) _ (hr 0 _)) $$ Hc
  iintro Hc
  iapply (scatter d L key base _ _ (hr 1 _)) $$ Hc
  iintro Hc
  iapply (scatter d L key base _ _ (hr 2 _)) $$ Hc
  iintro Hc
  sl_exec
  iapply (scatter d L key base _ _ (hr 3 _)) $$ Hc
  iintro Hc
  iapply (scatter d L key base _ _ (hr 4 _)) $$ Hc
  iintro Hc
  iapply (scatter d L key base _ _ (hr 5 _)) $$ Hc
  iintro Hc
  iapply (scatter d L key base _ _ (hr 6 _)) $$ Hc
  iintro Hc
  iapply (scatter d L key base _ _ (hr 7 _)) $$ Hc
  iintro Hc
  sl_step
  isplitl [Hb]; · iexact Hb
  iexact Hc

/-- One trip of the clearing loop: 128 cells more at zero. -/
theorem clear (n : Fin k1_t1_loop.trips) :
    iprop(∃ f : Buf (Elt F) ((cW).view.loc (thr d L)), ⌜∀ j : S106496.Idx, (j 0).val < 128 * n.val → f j = (0#32 : BitVec 32)⌝ ∗ ((cW).view.loc (thr d L) ↦{fullShare} f))
      ⊢ (wp frame (wpE (defs₀ (F := F)) 𝒱₀ (thr d L) none) Set.univ
          (k1_t1_body (F := F) L kW (Memref.isWhole_whole _) hW (Memref.isWhole_whole _) bW (Memref.isWhole_whole _) cW (Memref.isWhole_whole _)
            r0 r1 r2 r3 r4 r5 r6 r7 r8 r9 n ⟨⟩)
          fun _ => iprop(∃ f : Buf (Elt F) ((cW).view.loc (thr d L)), ⌜∀ j : S106496.Idx, (j 0).val < 128 * (n.val + 1) → f j = (0#32 : BitVec 32)⌝ ∗ ((cW).view.loc (thr d L) ↦{fullShare} f)) : sProp 𝕄) := by
  unfold k1_t1_body
  iintro ⟨%f, %hf, Hc⟩
  sl_exec
  sl_step
  iapply (clear_post d L n f hf _ (List.forall_mem_cons.mpr ⟨pay_zero, List.forall_mem_cons.mpr ⟨pay_zero, List.forall_mem_cons.mpr ⟨pay_zero,
    List.forall_mem_cons.mpr ⟨pay_zero, List.forall_mem_cons.mpr ⟨pay_zero, List.forall_mem_cons.mpr ⟨pay_zero, List.forall_mem_cons.mpr ⟨pay_zero,
    List.forall_mem_cons.mpr ⟨pay_zero, List.forall_mem_nil _⟩⟩⟩⟩⟩⟩⟩⟩) ?_) $$ Hc
  exact fun r => ⟨show 7 - r.val < 8 by omega, by fin_cases r <;> rfl⟩

section Chunk

/-- The chunk loop's invariant: the keys read at a share, the staging buffer at anything, the counts of the chunks done. -/
def chunkInv (q : PosShare TreeShare) (fk : Buf (Elt F) (kLoc d)) (r : DmaSems sig S_) (base : BitVec 32) (O : CellTallies nD τ sig (HIx 1)) (W : Waits sig (HIx 1)) (n : ℕ) (_ : Unit) : sProp 𝕄 :=
  iprop(Transfers.MayWaits (thr d L) (none : HIx 1) O
    ∗ ((kW).view.loc (thr d L) ↦{q} fk)
    ∗ (∃ f, (bW).view.loc (thr d L) ↦{fullShare} f)
    ∗ ((cW).view.loc (thr d L) ↦{fullShare} (countsAt (keyOf fk) base (8192 * n) : Buf (Elt F) ((cW).view.loc (thr d L))))
    ∗ semVal (thr d L, SemLoc.dma r.sem) 0
    ∗ ∃ W', ⌜∀ p ∈ W', p ∈ W ∨ p.2 = none⌝ ∗ owes (thr d L) O W')

/-- The group loop's invariant within chunk `t`: the chunk staged, the counts of the groups done. -/
def groupInv (fk : Buf (Elt F) (kLoc d)) (base : BitVec 32) (t : ℕ) (n : ℕ) (_ : Unit) : sProp 𝕄 :=
  iprop(((bW).view.loc (thr d L) ↦{fullShare} (chunkAt (keyOf fk) t : Buf (Elt F) ((bW).view.loc (thr d L))))
    ∗ ((cW).view.loc (thr d L) ↦{fullShare} (countsAt (keyOf fk) base (8192 * t + 128 * n) : Buf (Elt F) ((cW).view.loc (thr d L)))))

/-- A chunk's slice of the keys' array. -/
theorem chunk_read (fk : Buf (Elt F) (kLoc d)) (t : Fin k1_t2_loop.trips) :
    View.read (Elt F) ((kW).slice (Rect.unit (s := S262144) (k1_off2 t) S8192.size (k1_off2_inb t)) (fun _ => rfl)).view fk = chunkAt (keyOf fk) t.val := by
  funext x
  show fk _ = keyOf fk _
  have hx : (x 0).val < 8192 := (x 0).isLt
  have ht : t.val < 32 := t.isLt
  rw [keyOf, dif_pos (by omega)]
  congr 1
  funext a
  apply Fin.ext
  have h0 : k1_off2 t 0 = 8192 * t.val := by rw [k1_off2_eq t]; rfl
  have ha : ∀ b : Fin 1, k1_off2 t b + 1 * (x b).val = 8192 * t.val + (x 0).val := fun b => by
    obtain rfl : b = 0 := Subsingleton.elim _ _
    omega
  exact ha a

/-- A wait of the tile's own beside those recorded. -/
theorem waits_insert {W W' : Waits sig (HIx 1)} (h : ∀ p ∈ W', p ∈ W ∨ p.2 = none) (s : SemLoc sig) :
    ∀ p ∈ insert (s, (default : HIx 1)) W', p ∈ W ∨ p.2 = none := fun p hp =>
  (Finset.mem_insert.mp hp).elim (fun e => .inr (e ▸ rfl)) (h p)

/-- One chunk: copied in, and its 64 groups counted. -/
theorem chunk (q : PosShare TreeShare) (fk : Buf (Elt F) (kLoc d)) (base : BitVec 32) (O : CellTallies nD τ sig (HIx 1)) (W : Waits sig (HIx 1)) (t : Fin k1_t2_loop.trips) :
    chunkInv d L q fk r0 base O W t.val ⟨⟩
      ⊢ (wp frame (wpE (defs₀ (F := F)) 𝒱₀ (thr d L) none) Set.univ
          (k1_t2_body (F := F) L kW (Memref.isWhole_whole _) hW (Memref.isWhole_whole _) bW (Memref.isWhole_whole _) cW (Memref.isWhole_whole _)
            r0 r1 r2 r3 r4 r5 r6 r7 r8 r9 base t ⟨⟩)
          fun _ => chunkInv d L q fk r0 base O W (t.val + 1) ⟨⟩) := by
  unfold k1_t2_body chunkInv
  iintro ⟨Hmw, Hk, ⟨%fb, Hb⟩, Hc, Hsem, %W', %hW', HO⟩
  sl_exec (disch := exact View.amount_pos _ _ (show 0 < S8192.numel by decide))
  have hload : View.write (Elt F) (bW).view fb (chunk.sl.dma0 d fk t) Finset.univ = chunkAt (keyOf fk) t.val := by
    refine (View.write_whole_univ (Val := Elt F) cc1_scratch0 _ _).trans ?_
    delta chunk.sl.dma0
    exact chunk_read d fk t
  rw [hload]
  sl_for (groupInv d L fk base t.val) $$ [Hb Hc]
  case region =>
    intro k _
    exact group d L r0 r1 r2 r3 r4 r5 r6 r7 r8 r9 (keyOf fk) base t.val k
  · unfold groupInv
    isplitl [Hb]; · iexact Hb
    iexact Hc
  iintro %_ HI
  unfold groupInv
  icases HI with ⟨Hb, Hc⟩
  sl_step
  isplitl [Hmw]; · iexact Hmw
  isplitl [Hk]; · iexact Hk
  isplitl [Hb]; · iexists _; iexact Hb
  isplitl [Hc]; · iexact Hc
  isplitl [Hsem]; · iexact Hsem
  iexists _; isplitr
  rotate_left
  · iexact HO
  ipureintro
  exact waits_insert hW' _

end Chunk

end Sems

/-! ### A pass, and the five passes as that pass -/

/-- The block of the histogram a pass writes, at the offset the pass's first row `c` gives. -/
abbrev hS (c : BitVec 32) (hb : ∀ a, k1_off4 L c a + S106496.size a ≤ S17039360.size a) : Memref sig .scVector .hbm S106496 .i32 :=
  (hW).slice (Rect.unit (s := S17039360) (k1_off4 L c) S106496.size hb) (fun _ => rfl)

/-- The clearing loop. -/
def clearProg (r w : DmaSems sig S_) : Prog (TpuEff nD τ sig (Elt F) Λ₀ (.scVector (cV L) (jV L))) Unit :=
  Scf.Loop.for k1_t1_loop k1_t1_ok ⟨⟩ (k1_t1_body (F := F) L kW (Memref.isWhole_whole _) hW (Memref.isWhole_whole _) bW (Memref.isWhole_whole _) cW (Memref.isWhole_whole _) r w r w r w r w r w)

/-- The counting loop over the chunks. -/
def countProg (r w : DmaSems sig S_) (base : BitVec 32) : Prog (TpuEff nD τ sig (Elt F) Λ₀ (.scVector (cV L) (jV L))) Unit :=
  Scf.Loop.for k1_t2_loop k1_t2_ok ⟨⟩ (k1_t2_body (F := F) L kW (Memref.isWhole_whole _) hW (Memref.isWhole_whole _) bW (Memref.isWhole_whole _) cW (Memref.isWhole_whole _) r w r w r w r w r w base)

/-- A pass over the block at `base`: clear, count every chunk, write out. -/
def passProg (r w : DmaSems sig S_) (base c : BitVec 32) (hb : ∀ a, k1_off4 L c a + S106496.size a ≤ S17039360.size a) :
    Prog (TpuEff nD τ sig (Elt F) Λ₀ (.scVector (cV L) (jV L))) Unit := do
  clearProg L r w
  countProg L r w base
  Prog.lift (.enqueueDma cW (.here (hS L c hb)) (.dma w.sem) (Memref.isWhole_whole _).wordExact (View.wordExact_bits rfl) ⟨Or.inl rfl, trivial⟩)
  Prog.lift (.waitDma2 w.sem cW (hS L c hb) (Memref.isWhole_whole _).wordExact (View.wordExact_bits rfl))

section Eqs
variable (r0 r1 r2 r3 r4 r5 r6 r7 r8 r9 : DmaSems sig S_)

/-- The first tile row of pass `p` as the body computes it. -/
def baseOf (p : BitVec 32) : BitVec 32 :=
  Scalar.muli (Scalar.addi p (Scalar.muli (Scalar.addi (Scalar.muli (BitVec.ofNat 32 (L 1).val) 2#32) (BitVec.ofNat 32 (L 0).val)) 52#32)) 2048#32

theorem clear4_eq (r w : DmaSems sig S_) : Scf.Loop.for k1_t4_loop k1_t4_ok ⟨⟩ (k1_t4_body (F := F) L kW (Memref.isWhole_whole _) hW (Memref.isWhole_whole _) bW (Memref.isWhole_whole _) cW (Memref.isWhole_whole _) r0 r1 r2 r3 r4 r5 r6 r7 r8 r9) = clearProg L r w := rfl
theorem clear7_eq (r w : DmaSems sig S_) (v1 c52 : BitVec 32) : Scf.Loop.for k1_t7_loop k1_t7_ok ⟨⟩ (k1_t7_body (F := F) L kW (Memref.isWhole_whole _) hW (Memref.isWhole_whole _) bW (Memref.isWhole_whole _) cW (Memref.isWhole_whole _) r0 r1 r2 r3 r4 r5 r6 r7 r8 r9 v1 k1_pay201 c52) = clearProg L r w := rfl
theorem clear10_eq (r w : DmaSems sig S_) (v1 c52 : BitVec 32) : Scf.Loop.for k1_t10_loop k1_t10_ok ⟨⟩ (k1_t10_body (F := F) L kW (Memref.isWhole_whole _) hW (Memref.isWhole_whole _) bW (Memref.isWhole_whole _) cW (Memref.isWhole_whole _) r0 r1 r2 r3 r4 r5 r6 r7 r8 r9 v1 k1_pay201 c52) = clearProg L r w := rfl
theorem clear13_eq (r w : DmaSems sig S_) : Scf.Loop.for k1_t13_loop k1_t13_ok ⟨⟩ (k1_t13_body (F := F) L kW (Memref.isWhole_whole _) hW (Memref.isWhole_whole _) bW (Memref.isWhole_whole _) cW (Memref.isWhole_whole _) r0 r1 r2 r3 r4 r5 r6 r7 r8 r9 k1_pay201) = clearProg L r w := rfl
theorem count2_eq (w : DmaSems sig S_) (base : BitVec 32) : Scf.Loop.for k1_t2_loop k1_t2_ok ⟨⟩ (k1_t2_body (F := F) L kW (Memref.isWhole_whole _) hW (Memref.isWhole_whole _) bW (Memref.isWhole_whole _) cW (Memref.isWhole_whole _) r0 r1 r2 r3 r4 r5 r6 r7 r8 r9 base) = countProg L r0 w base := rfl
theorem count5_eq (w : DmaSems sig S_) (base : BitVec 32) : Scf.Loop.for k1_t5_loop k1_t5_ok ⟨⟩ (k1_t5_body (F := F) L kW (Memref.isWhole_whole _) hW (Memref.isWhole_whole _) bW (Memref.isWhole_whole _) cW (Memref.isWhole_whole _) r0 r1 r2 r3 r4 r5 r6 r7 r8 r9 base) = countProg L r2 w base := rfl
theorem count8_eq (w : DmaSems sig S_) (v1 c52 : BitVec 32) (base : BitVec 32) : Scf.Loop.for k1_t8_loop k1_t8_ok ⟨⟩ (k1_t8_body (F := F) L kW (Memref.isWhole_whole _) hW (Memref.isWhole_whole _) bW (Memref.isWhole_whole _) cW (Memref.isWhole_whole _) r0 r1 r2 r3 r4 r5 r6 r7 r8 r9 v1 k1_pay201 c52 base) = countProg L r4 w base := rfl
theorem count11_eq (w : DmaSems sig S_) (v1 c52 : BitVec 32) (base : BitVec 32) : Scf.Loop.for k1_t11_loop k1_t11_ok ⟨⟩ (k1_t11_body (F := F) L kW (Memref.isWhole_whole _) hW (Memref.isWhole_whole _) bW (Memref.isWhole_whole _) cW (Memref.isWhole_whole _) r0 r1 r2 r3 r4 r5 r6 r7 r8 r9 v1 k1_pay201 c52 base) = countProg L r6 w base := rfl
theorem count14_eq (w : DmaSems sig S_) (base : BitVec 32) : Scf.Loop.for k1_t14_loop k1_t14_ok ⟨⟩ (k1_t14_body (F := F) L kW (Memref.isWhole_whole _) hW (Memref.isWhole_whole _) bW (Memref.isWhole_whole _) cW (Memref.isWhole_whole _) r0 r1 r2 r3 r4 r5 r6 r7 r8 r9 base) = countProg L r8 w base := rfl
set_option maxRecDepth 65536 in
/-- The body is its five passes. -/
theorem body_eq : cc1__sc_body (F := F) L kW (Memref.isWhole_whole _) hW (Memref.isWhole_whole _) bW (Memref.isWhole_whole _) cW (Memref.isWhole_whole _) r0 r1 r2 r3 r4 r5 r6 r7 r8 r9
    = (do
      passProg L r0 r1 (baseOf L 0#32) 0#32 (k1_off4_inb L 0)
      passProg L r2 r3 (baseOf L 1664#32) 1664#32 (k1_off4_inb L 1)
      passProg L r4 r5 (baseOf L 3328#32) 3328#32 (k1_off4_inb L 2)
      passProg L r6 r7 (baseOf L 4992#32) 4992#32 (k1_off4_inb L 3)
      passProg L r8 r9 (baseOf L 6656#32) 6656#32 (k1_off4_inb L 4)) := by
  rw [cc1__sc_body_eq_skeleton]
  unfold cc1__sc_body_skel
  rw [k1_part16_eq_skeleton, k1_part17_eq_skeleton]
  unfold k1_part16_skel k1_part17_skel passProg
  simp only [bind_assoc, pure_bind, clear4_eq, clear7_eq, clear10_eq, clear13_eq, count2_eq, count5_eq, count8_eq, count11_eq, count14_eq]
  rfl

end Eqs
/-! ### A pass run -/

/-- What a tile holds between passes: the keys at a share, its two buffers at anything, what it has waited for. -/
def held (q : PosShare TreeShare) (fk : Buf (Elt F) (kLoc d)) (O : CellTallies nD τ sig (HIx 1)) (W : Waits sig (HIx 1)) : sProp 𝕄 :=
  iprop(Transfers.MayWaits (thr d L) (none : HIx 1) O
    ∗ ((kW).view.loc (thr d L) ↦{q} fk)
    ∗ (∃ f, (bW).view.loc (thr d L) ↦{fullShare} f)
    ∗ (∃ f, (cW).view.loc (thr d L) ↦{fullShare} f)
    ∗ ∃ W', ⌜∀ p ∈ W', p ∈ W ∨ p.2 = none⌝ ∗ owes (thr d L) O W')

/-- The clearing loop leaves the counts of no keys. -/
theorem clear_run (r w : DmaSems sig S_) (key : ℕ → BitVec 32) (base : BitVec 32) :
    iprop(∃ f, (cW).view.loc (thr d L) ↦{fullShare} f)
      ⊢ (wp frame (wpE (defs₀ (F := F)) 𝒱₀ (thr d L) none) Set.univ (clearProg (F := F) L r w)
          fun _ => ((cW).view.loc (thr d L) ↦{fullShare} (countsAt key base 0 : Buf (Elt F) ((cW).view.loc (thr d L)))) : sProp 𝕄) := by
  unfold clearProg
  iintro ⟨%f, Hc⟩
  sl_for (fun n _ => iprop(∃ f : Buf (Elt F) ((cW).view.loc (thr d L)), ⌜∀ j : S106496.Idx, (j 0).val < 128 * n → f j = (0#32 : BitVec 32)⌝ ∗ ((cW).view.loc (thr d L) ↦{fullShare} f))) $$ [Hc]
  case region =>
    intro k _
    exact clear d L r w r w r w r w r w k
  isplitl [Hc]
  · iexists f; isplitr
    · ipureintro; intro j hj; omega
    iexact Hc
  iintro %_ HI
  icases HI with ⟨%g, %hg, Hc⟩
  have e : g = (countsAt key base 0 : Buf (Elt F) ((cW).view.loc (thr d L))) := by
    funext j
    refine (hg j (show (j 0).val < 128 * 832 from (j 0).isLt)).trans ?_
    show (0#32 : BitVec 32) = BitVec.ofNat 32 (Step.hits key base 0 _)
    rw [Step.hits_zero]
  subst e
  iexact Hc

/-- The chunk loop counts every key. -/
theorem count_run (r w : DmaSems sig S_) (q : PosShare TreeShare) (fk : Buf (Elt F) (kLoc d)) (base : BitVec 32) (O : CellTallies nD τ sig (HIx 1)) (W : Waits sig (HIx 1)) :
    chunkInv d L q fk r base O W 0 ⟨⟩
      ⊢ wp frame (wpE (defs₀ (F := F)) 𝒱₀ (thr d L) none) Set.univ (countProg (F := F) L r w base) fun _ => chunkInv d L q fk r base O W 32 ⟨⟩ := by
  unfold countProg
  iintro H
  sl_for (chunkInv d L q fk r base O W) $$ [H]
  case region =>
    intro k _
    exact chunk d L r w r w r w r w r w q fk base O W k
  isplitl [H]; · iexact H
  iintro %_ HI
  iexact HI

theorem chunkInv_intro (r : DmaSems sig S_) (q : PosShare TreeShare) (fk : Buf (Elt F) (kLoc d)) (base : BitVec 32) (O : CellTallies nD τ sig (HIx 1)) (W : Waits sig (HIx 1)) :
    iprop(Transfers.MayWaits (thr d L) (none : HIx 1) O
    ∗ ((kW).view.loc (thr d L) ↦{q} fk)
    ∗ (∃ f, (bW).view.loc (thr d L) ↦{fullShare} f)
    ∗ ((cW).view.loc (thr d L) ↦{fullShare} (countsAt (keyOf fk) base 0 : Buf (Elt F) ((cW).view.loc (thr d L))))
    ∗ semVal (thr d L, SemLoc.dma r.sem) 0
    ∗ ∃ W', ⌜∀ p ∈ W', p ∈ W ∨ p.2 = none⌝ ∗ owes (thr d L) O W') ⊢ (chunkInv d L q fk r base O W 0 ⟨⟩ : sProp 𝕄) := Entails.rfl

theorem chunkInv_elim (r : DmaSems sig S_) (q : PosShare TreeShare) (fk : Buf (Elt F) (kLoc d)) (base : BitVec 32) (O : CellTallies nD τ sig (HIx 1)) (W : Waits sig (HIx 1)) :
    (chunkInv d L q fk r base O W 32 ⟨⟩ : sProp 𝕄) ⊢ iprop(Transfers.MayWaits (thr d L) (none : HIx 1) O
    ∗ ((kW).view.loc (thr d L) ↦{q} fk)
    ∗ (∃ f, (bW).view.loc (thr d L) ↦{fullShare} f)
    ∗ ((cW).view.loc (thr d L) ↦{fullShare} (countsAt (keyOf fk) base 262144 : Buf (Elt F) ((cW).view.loc (thr d L))))
    ∗ semVal (thr d L, SemLoc.dma r.sem) 0
    ∗ ∃ W', ⌜∀ p ∈ W', p ∈ W ∨ p.2 = none⌝ ∗ owes (thr d L) O W') := Entails.rfl

theorem read_writes_whole {sp : Space} {s : Shape} (v : View sig .scVector sp s .i32) (f : v.ty.Contents (Elt F)) (w : s.Idx → Elt F .i32) (x : s.Idx) :
    v.read (Elt F) (v.writes (Elt F) f [⟨Rect.whole s, w⟩]) x = w x := by
  have h := View.read_writes_cons_emb v f (Rect.whole s) w [] x
  rwa [Rect.emb_whole_apply] at h

theorem writes_whole_eq {sp : Space} {s : Shape} (v : View sig .scVector sp s .i32) (f G : v.ty.Contents (Elt F)) (w : s.Idx → Elt F .i32)
    (h : ∀ x, v.read (Elt F) G x = w x) (i : v.ty.Idx) (hi : i ∈ v.set) : v.writes (Elt F) f [⟨Rect.whole s, w⟩] i = G i := by
  obtain ⟨x, -, rfl⟩ := Finset.mem_map.mp hi
  have h1 := (read_writes_whole v f w x).trans (h x).symm
  rw [View.read_apply, View.read_apply] at h1
  exact (cast_inj _).mp h1

theorem block_read (key : ℕ → BitVec 32) (c : BitVec 32) (hb : ∀ a, k1_off4 L c a + S106496.size a ≤ S17039360.size a) (x : S106496.Idx) :
    (hS L c hb).view.read (Elt F) (histOf key) x = countsAt key (baseOf L c) 262144 x := by
  have hp : (((hS L c hb).view.emb x) 0).val = (baseOf L c).toNat + (x 0).val := by
    show (baseOf L c).toNat + 1 * (x 0).val = _
    rw [one_mul]
  have h1 : (hS L c hb).view.read (Elt F) (histOf key) x = BitVec.ofNat 32 (Step.hits key 0#32 262144 (((hS L c hb).view.emb x) 0).val) := by
    with_unfolding_all rfl
  have h2 : (countsAt key (baseOf L c) 262144 x : BitVec 32) = BitVec.ofNat 32 (Step.hits key (baseOf L c) 262144 (x 0).val) := by
    unfold countsAt; rfl
  rw [Step.hits_shift, ← hp] at h2
  exact h1.trans h2.symm

/-- The block written out is the histogram's. -/
theorem block_value (key : ℕ → BitVec 32) (c : BitVec 32) (hb : ∀ a, k1_off4 L c a + S106496.size a ≤ S17039360.size a)
    (fh : (hS L c hb).view.ty.Contents (Elt F)) (i : (hS L c hb).view.ty.Idx) (hi : i ∈ (hS L c hb).view.set) :
    (hS L c hb).view.writes (Elt F) fh [⟨Rect.whole S106496, countsAt key (baseOf L c) 262144⟩] i = histOf key i :=
  writes_whole_eq _ fh (histOf key) _ (block_read L key c hb) i hi

/-- One pass. -/
theorem pass (r w : DmaSems sig S_) (q : PosShare TreeShare) (fk : Buf (Elt F) (kLoc d)) (c : BitVec 32) (hb : ∀ a, k1_off4 L c a + S106496.size a ≤ S17039360.size a)
    (O : CellTallies nD τ sig (HIx 1)) (W : Waits sig (HIx 1)) (fh : Buf (Elt F) ((hS L c hb).view.loc (thr d L))) :
    iprop(held d L q fk O W ∗ semVal (thr d L, SemLoc.dma r.sem) 0 ∗ semVal (thr d L, SemLoc.dma w.sem) 0
        ∗ ((hS L c hb).view.loc (thr d L) ↦[(hS L c hb).view.set]{fullShare} fh))
      ⊢ wp frame (wpE (defs₀ (F := F)) 𝒱₀ (thr d L) none) Set.univ (passProg (F := F) L r w (baseOf L c) c hb) fun _ =>
        iprop(held d L q fk O W ∗ semVal (thr d L, SemLoc.dma r.sem) 0 ∗ semVal (thr d L, SemLoc.dma w.sem) 0
        ∗ ((hS L c hb).view.loc (thr d L) ↦[(hS L c hb).view.set]{fullShare} (histOf (keyOf fk) : Buf (Elt F) ((hS L c hb).view.loc (thr d L))))) := by
  unfold passProg held
  iintro ⟨⟨Hmw, Hk, Hb, Hc, %W', %hW', HO⟩, Hr, Hw, Hh⟩
  rw [wp_bind]
  iapply ((clear_run d L r w (keyOf fk) (baseOf L c)).trans (wp_wand frame _ _)) $$ Hc
  iintro %_ Hc
  rw [wp_bind]
  ihave Hi := (chunkInv_intro d L r q fk (baseOf L c) O W) $$ [Hmw Hk Hb Hc Hr HO]
  · isplitl [Hmw]; · iexact Hmw
    isplitl [Hk]; · iexact Hk
    isplitl [Hb]; · iexact Hb
    isplitl [Hc]; · iexact Hc
    isplitl [Hr]; · iexact Hr
    iexists W'; isplitr
    · ipureintro; exact hW'
    iexact HO
  iapply ((count_run d L r w q fk (baseOf L c) O W).trans (wp_wand frame _ _)) $$ Hi
  iintro %_ Hi
  ihave Hi' := (chunkInv_elim d L r q fk (baseOf L c) O W) $$ Hi
  icases Hi' with ⟨Hmw, Hk, Hb, Hc, Hr, %W'', %hW'', HO⟩
  sl_exec (disch := exact View.amount_pos _ _ (show 0 < S106496.numel by decide))
  sl_step
  isplitl [Hmw Hk Hb Hc HO]
  · isplitl [Hmw]; · iexact Hmw
    isplitl [Hk]; · iexact Hk
    isplitl [Hb]; · iexact Hb
    isplitl [Hc]; · iexists _; iexact Hc
    iexists (insert (SemLoc.dma w.sem, (default : HIx 1)) W''); isplitr
    · ipureintro; exact waits_insert hW'' _
    iexact HO
  isplitl [Hr]; · iexact Hr
  isplitl [Hw]; · iexact Hw
  have hv : pass.sl.dma0 d L fk c = countsAt (keyOf fk) (baseOf L c) 262144 := by delta pass.sl.dma0; rfl
  rw [hv, pointsTo_congr (block_value L (keyOf fk) c hb fh)]
  exact Entails.rfl

end Tile
end Cert.Proof
end
-- ==== Proof.Task.lean ====
/-
  The SparseCore call as the launch theorem takes it: the task of a vector subcore from what the call hands it to what
  it hands back, and the array of counts dealt to the subcores block by block.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "kW" => (Memref.whole Cert.KernelIdeal.main_v3_scv : Memref Cert.KernelIdeal.sig Kind.scVector Space.hbm Cert.KernelIdeal.S262144 EltTy.i32)
local notation "hW" => (Memref.whole Cert.KernelIdeal.main_v4_scv : Memref Cert.KernelIdeal.sig Kind.scVector Space.hbm Cert.KernelIdeal.S17039360 EltTy.i32)
local notation "bW" => (Memref.whole Cert.KernelIdeal.cc1_scratch0 : Memref Cert.KernelIdeal.sig Kind.scVector Space.vmem Cert.KernelIdeal.S8192 EltTy.i32)
local notation "cW" => (Memref.whole Cert.KernelIdeal.cc1_scratch1 : Memref Cert.KernelIdeal.sig Kind.scVector Space.vmem Cert.KernelIdeal.S106496 EltTy.i32)

/-! ## The task -/

section Tile

variable (d : Dev nD) (L : grid1.Coords)

/-- The block pass `p` of a subcore writes, as a set of places of the histogram. -/
def blk (p : Fin 5) : Finset (Idx (hLoc d)) := (hS L (BitVec.ofNat 32 (1664 * p.val)) (k1_off4_inb L p)).view.set

/-- That block at the contents `f`. -/
def blkPts (p : Fin 5) (f : Buf (Elt F) (hLoc d)) : sProp 𝕄 := hLoc d ↦[blk d L p]{fullShare} f

/-- The task's semaphores. -/
def tsem : Fin 10 → SemLoc sig := fun n => SemLoc.dma (match n with
  | 0 => cc1_scoped0.sem | 1 => cc1_scoped1.sem | 2 => cc1_scoped2.sem | 3 => cc1_scoped3.sem | 4 => cc1_scoped4.sem
  | 5 => cc1_scoped5.sem | 6 => cc1_scoped6.sem | 7 => cc1_scoped7.sem | 8 => cc1_scoped8.sem | 9 => cc1_scoped9.sem)

theorem tsem_inj : Function.Injective tsem := by decide

theorem bigSep_ten (Φ : Fin 10 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  repeat rw [SparseCore.bigSep_insert' (by decide)]
  rw [bigSep_singleton]

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide]
  repeat rw [SparseCore.bigSep_insert' (by decide)]
  rw [bigSep_singleton]

/-- The task's ten semaphores among the subcore's own. -/
theorem ownSems0_V : (ownSems0 (thr d L) : sProp 𝕄)
    = iprop((bigSep Finset.univ fun n : Fin 10 => semVal (thr d L, tsem n) 0)
        ∗ bigSep (ownCells (thr d L) \ Finset.univ.image fun n : Fin 10 => (thr d L, tsem n)) fun g => semVal g 0) := by
  have hsub : (Finset.univ.image fun n : Fin 10 => ((thr d L, tsem n) : GSem nD τ sig)) ⊆ ownCells (thr d L) := by
    intro g hg
    obtain ⟨n, -, rfl⟩ := Finset.mem_image.mp hg
    exact mem_ownCells.mpr ⟨rfl, by clear hg; revert n; exact (by decide : ∀ n : Fin 10, (tsem n).isScoped .scVector = true)⟩
  unfold SparseCore.Cfg.ownSems0
  rw [SparseCore.bigSep_sdiff_split' hsub, SparseCore.bigSep_image_of_injOn (fun a _ b _ e => tsem_inj (Prod.mk.inj e).2)]

/-- The two scratch buffers among the subcore's own. -/
theorem ownBufs_V : (ownBufs (thr d L) : sProp 𝕄)
    = iprop((∃ f, (bW).view.loc (thr d L) ↦{fullShare} f) ∗ (∃ f, (cW).view.loc (thr d L) ↦{fullShare} f)
        ∗ bigSep (((ownRefs (τ := τ) (.scVector (cV L) (jV L))).erase ((Proc.scVector (cV L) (jV L)).devRef cc1_scratch0)).erase
            ((Proc.scVector (cV L) (jV L)).devRef cc1_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Pass `p` over its block, with the pass's two semaphores. -/
theorem pass_blk (p : Fin 5) (r w : DmaSems sig S_) (q : PosShare TreeShare) (fk : Buf (Elt F) (kLoc d)) (O : CellTallies nD τ sig (HIx 1)) (W : Waits sig (HIx 1)) (fh : Buf (Elt F) (hLoc d)) :
    iprop(held d L q fk O W ∗ semVal (thr d L, SemLoc.dma r.sem) 0 ∗ semVal (thr d L, SemLoc.dma w.sem) 0 ∗ blkPts d L p fh)
      ⊢ wp frame (wpE (defs₀ (F := F)) 𝒱₀ (thr d L) none) Set.univ
          (passProg (F := F) L r w (baseOf L (BitVec.ofNat 32 (1664 * p.val))) (BitVec.ofNat 32 (1664 * p.val)) (k1_off4_inb L p)) fun _ =>
        iprop(held d L q fk O W ∗ semVal (thr d L, SemLoc.dma r.sem) 0 ∗ semVal (thr d L, SemLoc.dma w.sem) 0 ∗ blkPts d L p (histOf (keyOf fk))) :=
  pass d L r w q fk (BitVec.ofNat 32 (1664 * p.val)) (k1_off4_inb L p) O W fh

/-- The task on a vector subcore: the keys read at a share, its five blocks left at the histogram. -/
theorem tile_body (hF : (K (F := F)).Facts) (q : PosShare TreeShare) (fk : Buf (Elt F) (kLoc d)) (fh : Buf (Elt F) (hLoc d))
    (O : CellTallies nD τ sig (HIx 1)) (W : Waits sig (HIx 1)) (hO : ∀ g, O g none = 0) :
    iprop(levAts (K (F := F)).L (K (F := F)).lev ∗ emp
        ∗ ((kLoc d ↦{q} fk) ∗ bigSep Finset.univ fun p : Fin 5 => blkPts d L p fh)
        ∗ scopedBufs (thr d L) ∗ scopedSems0 (thr d L) ∗ owes (thr d L) O W)
      ⊢ wp frame (wpE (defs₀ (F := F)) 𝒱₀ (thr d L) none) Set.univ
          (cc1__sc_body L kW (Memref.isWhole_whole _) hW (Memref.isWhole_whole _) bW (Memref.isWhole_whole _) cW (Memref.isWhole_whole _)
            cc1_scoped0 cc1_scoped1 cc1_scoped2 cc1_scoped3 cc1_scoped4 cc1_scoped5 cc1_scoped6 cc1_scoped7 cc1_scoped8 cc1_scoped9)
          fun _ => iprop(((kLoc d ↦{q} fk) ∗ bigSep Finset.univ fun p : Fin 5 => blkPts d L p (histOf (keyOf fk)))
            ∗ scopedBufs (thr d L) ∗ scopedSems0 (thr d L) ∗ ∃ W', ⌜∀ p ∈ W', p ∈ W ∨ p.2 = none⌝ ∗ owes (thr d L) O W') := by
  rw [body_eq, (K (F := F)).scopedBufs_V hF d (cV L) (jV L), SparseCore.Cfg.scopedSems0_V (Val := Elt F) d (cV L) (jV L), ownSems0_V, ownBufs_V,
    bigSep_five, bigSep_five, bigSep_ten]
  iintro ⟨#Hlv, -, ⟨Hk, Hh0, Hh1, Hh2, Hh3, Hh4⟩, ⟨Hb, Hc, Hbufs⟩, ⟨⟨S0, S1, S2, S3, S4, S5, S6, S7, S8, S9⟩, Hsems⟩, HO⟩
  ihave Hmw := ((K (F := F)).mayWaits_none (thr := thr d L) hO) $$ Hlv
  ihave Hd : held d L q fk O W $$ [Hmw Hk Hb Hc HO]
  · unfold held
    isplitl [Hmw]; · iexact Hmw
    isplitl [Hk]; · iexact Hk
    isplitl [Hb]; · iexact Hb
    isplitl [Hc]; · iexact Hc
    iexists W; isplitr
    · ipureintro; exact fun p hp => .inl hp
    iexact HO
  rw [wp_bind]
  iapply ((pass_blk d L 0 cc1_scoped0 cc1_scoped1 q fk O W fh).trans (wp_wand frame _ _)) $$ [Hd S0 S1 Hh0]
  · isplitl [Hd]; · iexact Hd
    isplitl [S0]; · iexact S0
    isplitl [S1]; · iexact S1
    iexact Hh0
  iintro %_ ⟨Hd, S0, S1, Hh0⟩
  rw [wp_bind]
  iapply ((pass_blk d L 1 cc1_scoped2 cc1_scoped3 q fk O W fh).trans (wp_wand frame _ _)) $$ [Hd S2 S3 Hh1]
  · isplitl [Hd]; · iexact Hd
    isplitl [S2]; · iexact S2
    isplitl [S3]; · iexact S3
    iexact Hh1
  iintro %_ ⟨Hd, S2, S3, Hh1⟩
  rw [wp_bind]
  iapply ((pass_blk d L 2 cc1_scoped4 cc1_scoped5 q fk O W fh).trans (wp_wand frame _ _)) $$ [Hd S4 S5 Hh2]
  · isplitl [Hd]; · iexact Hd
    isplitl [S4]; · iexact S4
    isplitl [S5]; · iexact S5
    iexact Hh2
  iintro %_ ⟨Hd, S4, S5, Hh2⟩
  rw [wp_bind]
  iapply ((pass_blk d L 3 cc1_scoped6 cc1_scoped7 q fk O W fh).trans (wp_wand frame _ _)) $$ [Hd S6 S7 Hh3]
  · isplitl [Hd]; · iexact Hd
    isplitl [S6]; · iexact S6
    isplitl [S7]; · iexact S7
    iexact Hh3
  iintro %_ ⟨Hd, S6, S7, Hh3⟩
  iapply ((pass_blk d L 4 cc1_scoped8 cc1_scoped9 q fk O W fh).trans (wp_wand frame _ _)) $$ [Hd S8 S9 Hh4]
  · isplitl [Hd]; · iexact Hd
    isplitl [S8]; · iexact S8
    isplitl [S9]; · iexact S9
    iexact Hh4
  iintro %_ ⟨Hd, S8, S9, Hh4⟩
  unfold held
  icases Hd with ⟨-, Hk, Hb, Hc, HO⟩
  isplitl [Hk Hh0 Hh1 Hh2 Hh3 Hh4]
  · isplitl [Hk]; · iexact Hk
    isplitl [Hh0]; · iexact Hh0
    isplitl [Hh1]; · iexact Hh1
    isplitl [Hh2]; · iexact Hh2
    isplitl [Hh3]; · iexact Hh3
    iexact Hh4
  isplitl [Hb Hc Hbufs]
  · isplitl [Hb]; · iexact Hb
    isplitl [Hc]; · iexact Hc
    iexact Hbufs
  isplitr [HO]
  · isplitr [Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hsems
  iexact HO

end Tile
end Cert.Proof
end
-- ==== Proof.Call.lean ====
/-
  The SparseCore call: what its start hands the tasks (a read share of the keys each, five blocks of the histogram's array each),
  how that splits from the two arrays whole and joins back, and the launch theorem's obligations for the call.
-/
module

public import proofs.«01_k».proof.Proof.Task
public import Idealize.ShloMosaic.Lib.SparseCore.Quiescent

@[expose] public section

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Subcore `s` of SparseCore `c`, as a point of the call's grid. -/
abbrev coordsV (c : Fin 2) (s : Fin 16) : grid1.Coords :=
  fun | 0 => c | 1 => s | ⟨_ + 2, h⟩ => absurd h (Nat.not_lt.2 (Nat.le_add_left _ _))

/-! ## The blocks -/

theorem off4_val : ∀ (c : Fin 2) (s : Fin 16) (p : Fin 5),
    k1_off4 (coordsV c s) (BitVec.ofNat 32 (1664 * p.val)) 0 = 106496 * (32 * p.val + 2 * s.val + c.val) := by decide +kernel

theorem mem_blk (d : Dev nD) (c : Fin 2) (s : Fin 16) (p : Fin 5) (i : S17039360.Idx) :
    i ∈ blk d (coordsV c s) p ↔ (i 0).val / 106496 = 32 * p.val + 2 * s.val + c.val := by
  have h0 : blk d (coordsV c s) p = (Rect.unit (s := S17039360) (k1_off4 (coordsV c s) (BitVec.ofNat 32 (1664 * p.val))) S106496.size
      (k1_off4_inb (coordsV c s) p)).set := by
    unfold blk
    show ((View.whole (main_v4_scv : Ref sig .scVector)).slice _).set = _
    rw [View.set_slice]; exact Finset.map_refl
  rw [h0, Rect.mem_set_unit]
  constructor
  · intro h
    have := h 0
    rw [off4_val] at this
    have h2 : S106496.size 0 = 106496 := rfl
    omega
  · intro h a
    obtain rfl : a = 0 := Subsingleton.elim _ _
    rw [off4_val]
    have h2 : S106496.size 0 = 106496 := rfl
    omega

/-- The blocks of the call, by core, subcore and pass. -/
abbrev blkOf (d : Dev nD) (x : Fin 2 × Fin 16 × Fin 5) : Finset (Idx (hLoc d)) := blk d (coordsV x.1 x.2.1) x.2.2

theorem blks_disjoint (d : Dev nD) : ∀ x ∈ (Finset.univ : Finset (Fin 2 × Fin 16 × Fin 5)), ∀ y ∈ (Finset.univ : Finset (Fin 2 × Fin 16 × Fin 5)),
    x ≠ y → Disjoint (blkOf d x) (blkOf d y) := by
  rintro ⟨c, s, p⟩ - ⟨c', s', p'⟩ - h
  rw [Finset.disjoint_left]
  intro i hi hi'
  have h1 := (mem_blk d c s p i).mp hi
  have h2 := (mem_blk d c' s' p' i).mp hi'
  apply h
  have hc : c = c' := Fin.ext (by omega)
  have hs : s = s' := Fin.ext (by omega)
  have hp : p = p' := Fin.ext (by omega)
  rw [hc, hs, hp]

theorem blks_cover (d : Dev nD) : (Finset.univ : Finset (Fin 2 × Fin 16 × Fin 5)).biUnion (blkOf d) = Finset.univ := by
  ext i
  simp only [Finset.mem_biUnion, Finset.mem_univ, true_and, iff_true]
  have hi : ((i : S17039360.Idx) 0).val < 17039360 := ((i : S17039360.Idx) 0).isLt
  refine ⟨(⟨((i : S17039360.Idx) 0).val / 106496 % 2, by omega⟩, ⟨((i : S17039360.Idx) 0).val / 106496 / 2 % 16, by omega⟩,
    ⟨((i : S17039360.Idx) 0).val / 106496 / 32, by omega⟩), (mem_blk d _ _ _ i).mpr ?_⟩
  show _ = 32 * (((i : S17039360.Idx) 0).val / 106496 / 32) + 2 * (((i : S17039360.Idx) 0).val / 106496 / 2 % 16) + ((i : S17039360.Idx) 0).val / 106496 % 2
  omega

/-! ## The call's payloads -/

/-- The read share of the keys a task is dealt. -/
def shareOf (c : Fin 2) (s : Fin 16) : PosShare TreeShare := Transfers.dealOf fullShare Finset.univ (finProdFinEquiv (c, s))

/-- What a task is handed, and with `f` the histogram what it hands back. -/
def tilePts (d : Dev nD) (fk : Buf (Elt F) (kLoc d)) (f : Buf (Elt F) (hLoc d)) (c : Fin 2) (s : Fin 16) : sProp 𝕄 :=
  iprop((kLoc d ↦{shareOf c s} fk) ∗ bigSep Finset.univ fun p : Fin 5 => blkPts d (coordsV c s) p f)

instance (d : Dev nD) (fk : Buf (Elt F) (kLoc d)) (f : Buf (Elt F) (hLoc d)) (c : Fin 2) (s : Fin 16) :
    BI.Storable (upEmb : UEmb _ 𝕄) (tilePts d fk f c s) := by
  unfold tilePts blkPts; infer_instance

/-- Both arrays whole are the tasks' parts. -/
theorem tilePts_split (d : Dev nD) (fk : Buf (Elt F) (kLoc d)) (f : Buf (Elt F) (hLoc d)) :
    (iprop((kLoc d ↦{fullShare} fk) ∗ (hLoc d ↦{fullShare} f)) : sProp 𝕄)
      = bigSep Finset.univ fun c : Fin 2 => bigSep Finset.univ fun s : Fin 16 => tilePts d fk f c s := by
  have hk : (kLoc d ↦{fullShare} fk : sProp 𝕄)
      = bigSep Finset.univ fun c : Fin 2 => bigSep Finset.univ fun s : Fin 16 => kLoc d ↦{shareOf c s} fk := by
    rw [Transfers.pointsTo_deal (Finset.univ : Finset (Fin (2 * 16))) ⟨0, Finset.mem_univ _⟩ fullShare,
      BI.bigSep_univ_equiv finProdFinEquiv, BI.bigSep_univ_prod]
    rfl
  have hh : (hLoc d ↦{fullShare} f : sProp 𝕄)
      = bigSep Finset.univ fun c : Fin 2 => bigSep Finset.univ fun s : Fin 16 => bigSep Finset.univ fun p : Fin 5 => blkPts d (coordsV c s) p f := by
    have h := pointsTo_biUnion (Ix := HIx 1) (Name := ℕ) (U := UU) (Lvl := ℕ) (Finset.univ : Finset (Fin 2 × Fin 16 × Fin 5)) (ℓ := hLoc d) (q := fullShare) (f := f) (blkOf d) (blks_disjoint d)
    rw [blks_cover] at h
    refine Eq.trans h ?_
    rw [BI.bigSep_univ_prod]
    refine bigSep_congr fun c _ => ?_
    rw [BI.bigSep_univ_prod]
    rfl
  rw [hk, hh]
  refine (BI.bigSep_sep _ _ _).symm.trans (bigSep_congr fun c _ => ?_)
  exact (BI.bigSep_sep _ _ _).symm

section Obl

variable (fk : (d : Dev nD) → Buf (Elt F) (kLoc d)) (fh : (d : Dev nD) → Buf (Elt F) (hLoc d))

/-- The histogram of device `d`'s keys. -/
abbrev histBuf (d : Dev nD) : Buf (Elt F) (hLoc d) := histOf (keyOf (fk d))

/-- The call's payloads: the operands out, the keys and the histogram back. -/
def P : (K (F := F)).Pay (nD := nD) (Val := Elt F) (Name := ℕ) (U := UU) where
  st := fun q d c => match q with | 0 => bigSep Finset.univ fun i : Fin 16 => tilePts d (fk d) (fh d) c i
  dn := fun q d c => match q with | 0 => bigSep Finset.univ fun i : Fin 16 => tilePts d (fk d) (histBuf fk d) c i
  go := fun q d c i => match q with | 0 => tilePts d (fk d) (fh d) c i
  td := fun q d c i => match q with | 0 => tilePts d (fk d) (histBuf fk d) c i
  x := fun _ _ => iprop(emp)

instance P_storable : (P fk fh).IsStorable where
  st q d c := match q with
    | 0 => (inferInstance : BI.Storable (upEmb : UEmb _ 𝕄) (bigSep Finset.univ fun i : Fin 16 => tilePts d (fk d) (fh d) c i))
  dn q d c := match q with
    | 0 => (inferInstance : BI.Storable (upEmb : UEmb _ 𝕄) (bigSep Finset.univ fun i : Fin 16 => tilePts d (fk d) (histBuf fk d) c i))
  go q d c i := match q with
    | 0 => (inferInstance : BI.Storable (upEmb : UEmb _ 𝕄) (tilePts d (fk d) (fh d) c i))
  td q d c i := match q with
    | 0 => (inferInstance : BI.Storable (upEmb : UEmb _ 𝕄) (tilePts d (fk d) (histBuf fk d) c i))

theorem defs₀_vector (c : Fin τ.nSC) (s : Fin τ.nSub) :
    defs₀ (F := F) (.scVector c s) 1 ()
      = SparseCore.onTile hcore1 hsub1 (fun c s => cc1__sc_body (coordsV c s) (Memref.whole main_v3_scv) (Memref.isWhole_whole _)
          (Memref.whole main_v4_scv) (Memref.isWhole_whole _) (Memref.whole cc1_scratch0) (Memref.isWhole_whole _) (Memref.whole cc1_scratch1) (Memref.isWhole_whole _)
          cc1_scoped0 cc1_scoped1 cc1_scoped2 cc1_scoped3 cc1_scoped4 cc1_scoped5 cc1_scoped6 cc1_scoped7 cc1_scoped8 cc1_scoped9) ⟨⟩ c s := rfl

/-- A task's waits are recorded at the pipelines' index only. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

/-- The launch theorem's obligation for a task of the call. -/
theorem tileObl (hF : (K (F := F)).Facts) : (K (F := F)).TileObl (D (F := F)) 𝒱 (P fk fh) v₀ 0 := by
  intro d c i O W hO _ _
  simp only [show (P fk fh).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) hF (shareOf c i) (fk d) (fh d) O W hO).trans (wp_mono frame _ _ fun _ => post_weaken)

/-- The operands leave for the tasks as they came, and come back so. -/
theorem vecSplit : (K (F := F)).VecSplit' (P fk fh) 0 := by
  intro d c
  show (bigSep Finset.univ fun i : Fin 16 => tilePts d (fk d) (fh d) c i) ⊢ |={Set.univ}=> iprop(
      (bigSep Finset.univ fun i : Fin 16 => tilePts d (fk d) (fh d) c i)
      ∗ ((bigSep Finset.univ fun i : Fin 16 => tilePts d (fk d) (histBuf fk d) c i)
          -∗ bigSep Finset.univ fun i : Fin 16 => tilePts d (fk d) (histBuf fk d) c i))
  iintro H
  imodintro
  isplitl [H]; · iexact H
  iintro H; iexact H

end Obl

end Cert.Proof

end
-- ==== Proof.Region.lean ====
/-
  A TensorCore kernel called between the host's operations, over the thread state the rest of @main uses: the unscoped
  buffers held at a valuation, and what the core still owes the SparseCore call (`tcSt`'s first conjunct).
-/
module

public import proofs.«01_k».proof.Proof.Setup
public import proofs.«01_k».proof.Proof.Gen.KernelIdeal.Launch
public import Idealize.ShloMosaic.Lib.Pipeline.RegionArraysS

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat PLaunchFacts RegionSeg afterRegion ucRefs)

variable {F : FTy → Type} [FloatOps F]

local notation "𝕄" => MT nD τ sig (HIx 1) (Elt F) ℕ UU ℕ

/-- No pipeline prefetches a table. -/
abbrev adm : (p : Fin 2) → (pcfgs (F := F) p).Adm := fun p => (cfgs p).toPCfg_adm

/-- The two TensorCore kernels' proof data. -/
abbrev Dats (F : FTy → Type) [FloatOps F] : Type := (p : Fin 2) → (c : Dev nD) → Dat τ (Elt F) (HIx 1) ℕ UU ℕ (Pipeline.pin (pcfgs (F := F)) adm p) c

/-- Nothing is owed the SparseCore call at the index the pipelines wait at. -/
theorem Otc_none (d : Dev nD) (n : ℕ) (g : GSem nD τ sig) : (K (F := F)).Otc d n g none = 0 := by
  by_contra h
  have h1 := (K (F := F)).lev_of_Otc_pos (Nat.pos_of_ne_zero h)
  have h2 : (K (F := F)).lev g (none : HIx 1) = 0 := rfl
  omega

/-- The recorded waits a TensorCore may bring to the launch's call `n`. -/
def lowPairs (c : Dev nD) (n : ℕ) : Set (SemLoc sig × HIx 1) := {p | (K (F := F)).lev (T c, p.1) p.2 ≤ 8 * n}

/-- What the core owes before the launch's call `n`. -/
abbrev owing (c : Dev nD) (n : ℕ) : sProp 𝕄 :=
  iprop(∃ W, ⌜(K (F := F)).WBelow (T c) W (8 * n)⌝ ∗ owes (T c) ((K (F := F)).Otc c n) W)

variable (dats : Dats F)

set_option backward.isDefEq.respectTransparency.types false in
/-- Kernel `p` called before the launch's call `n`: from the unscoped buffers at `V c` to them at `V c` with the
    kernel's arrays as its run leaves them. -/
def seg (p : Fin 2) (n : ℕ) (V : Dev nD → Valuation τ sig (Elt F)) (kit : PLaunchFacts (nD := nD) (τ := τ) (pcfgs (F := F)) p)
    (hK : (pcfgs (F := F) p).pre.K = 0)
    (hbody : ∀ c, Pipeline.BodyObligationLoose (dats p c) defs₀ 𝒱₀ none Set.univ)
    (howed : ∀ c t, (dats p c).owed t = (K (F := F)).Otc c n) (hrec : ∀ c t, (dats p c).recorded t = lowPairs (F := F) c n)
    (hshare : ∀ c w, (dats p c).share w = fullShare)
    (hΦ : ∀ c t, (dats p c).Φ t = Pipeline.scopedRest (Pipeline.pin (pcfgs (F := F)) adm p).spec c)
    (hV : ∀ c w, (dats p c).arrAt w 0 = V c (Proc.devRef .tc (Pipeline.arrRef (Pipeline.pin (pcfgs (F := F)) adm p).spec w))) :
    RegionSeg (pcfgs (F := F)) adm dats none defs₀ 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.cellsWaits_intro (Pipeline.pin (pcfgs (F := F)) adm) dats none p c fun w s t => by
    rw [howed c t]
    exact (K (F := F)).mayWait_none _ (Otc_none c n)
  pre c := iprop(StableHlo.held (c.tc : Thread nD τ) (ucRefs τ sig) (V c) ∗ owing (F := F) c n)
  post c := iprop(StableHlo.held (c.tc : Thread nD τ) (ucRefs τ sig) (afterRegion (dats p c) (V c)) ∗ owing (F := F) c n)
  X _ := BI.emp
  Y _ := BI.emp
  Z c := StableHlo.held (c.tc : Thread nD τ) (ucRefs τ sig \ Pipeline.arrRefs (pcfgs (F := F) p).spec) (V c)
  hentry c := by
    have hS : Pipeline.arrRefs (pcfgs (F := F) p).spec ⊆ ucRefs τ sig := Pipeline.arrRefs_sub_ucRefs _ fun w => by
      have := kit.win.arr_unscoped w; simpa using this
    rw [Pipeline.ownSems0_none, Pipeline.prefHeld_of_none _ hK, StableHlo.held_sub_split (c.tc : Thread nD τ) hS (V c),
      Pipeline.arrays_held (pcfgs (F := F)) adm dats p kit c (hshare c) ((dats p c).arrAt · 0) (V c) (hV c)]
    iintro ⟨⟨⟨Ha, Hr⟩, ⟨%W, %hW, HO⟩⟩, -, -⟩
    imodintro
    isplitl [Ha]; · iexact Ha
    isplitr; · iempintro
    isplitl [HO]
    · unfold Dat.owesAt Pipeline.owesWithin Dat.bound
      rw [howed c 0, hrec c]
      iexists W
      isplitr; · ipureintro; exact fun q hq => Or.inl (hW q hq)
      iexact HO
    isplitr; · iempintro
    iexact Hr
  hin c := by
    rw [hΦ]
    iintro ⟨-, -, Hr⟩; iexact Hr
  hout c := by
    rw [hΦ, Pipeline.ownSems0_none]
    iintro Hr
    isplitr; · iempintro
    isplitr; · iempintro
    iexact Hr
  hexit c := by
    have hS : Pipeline.arrRefs (pcfgs (F := F) p).spec ⊆ ucRefs τ sig := Pipeline.arrRefs_sub_ucRefs _ fun w => by
      have := kit.win.arr_unscoped w; simpa using this
    rw [StableHlo.held_sub_split (c.tc : Thread nD τ) hS (afterRegion (dats p c) (V c)),
      StableHlo.held_congr (c.tc : Thread nD τ) (Pipeline.afterRegion_off (dats p c) (V c) (ucRefs τ sig)),
      Pipeline.arrays_held (pcfgs (F := F)) adm dats p kit c (hshare c) _ (afterRegion (dats p c) (V c))
        (fun w => (Pipeline.afterRegion_arr (dats p c) (V c) kit.win.arr_inj w).symm)]
    iintro ⟨Ha, HO, -, Hr⟩
    imodintro
    isplitl [Ha Hr]
    · isplitl [Ha]; · iexact Ha
      iexact Hr
    unfold Dat.owesAt Pipeline.owesWithin Dat.bound
    rw [howed c (Fin.last _), hrec c]
    icases HO with ⟨%W, %hW, HO⟩
    iexists W
    isplitr
    · ipureintro
      intro q hq
      rcases hW hq with h | ⟨w, s, h⟩
      · exact h
      · rw [h]; exact Nat.zero_le _
    iexact HO

end Cert.Proof

end
-- ==== Proof.Bodies.lean ====
/-
  The two TensorCore kernels' bodies, run over whole staging buffers: the keys, and a block of the result.
-/
module

public import proofs.«01_k».proof.Proof.Region
public import Idealize.ShloMosaic.Lib.Pipeline.Value

@[expose] public section

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Whole
variable {Val : EltTy → Type} {κ : Kind} {sp : Space} {s : Shape} {e : EltTy}

/-- A load of the whole shape reads the contents. -/
theorem load_whole (v : View sig κ sp s e) (f : v.ty.Contents Val) {off : Fin s.rank → ℕ} (h : off = fun _ => 0)
    (inb : ∀ a, off a + s.size a ≤ s.size a) : v.readAt Val (Rect.unit off s.size inb).toLoadRect f = v.read Val f :=
  View.ld_unit_zero h inb (v.read Val f)

/-- A store of the whole shape leaves what it stores. -/
theorem store_whole (v : View sig κ sp s e) (f : v.ty.Contents Val) {off : Fin s.rank → ℕ} (h : off = fun _ => 0)
    (inb : ∀ a, off a + s.size a ≤ s.size a) (w : s.Idx → Val e) : v.read Val (v.writes Val f [⟨Rect.unit off s.size inb, w⟩]) = w := by
  subst h
  funext x
  have h := View.read_writes_cons_emb v f (Rect.whole s) w [] x
  rwa [Rect.emb_whole_apply] at h

end Whole

theorem zeros2 : (![0, 0] : Fin 2 → ℕ) = fun _ => 0 := by funext a; fin_cases a <;> rfl

/-- The keys' kernel. -/
theorem key_body (c : Dev nD) (M0 M1 M2 : Memref sig .tc .vmem S256x1024 .i32) (h0 : M0.IsWhole) (h1 : M1.IsWhole) (h2 : M2.IsWhole)
    (X0 X1 : S256x1024.Idx → Elt F .i32) (Q : PUnit → sProp 𝕄) :
    iprop(owns (c : Thread nD τ) M0 fullShare X0 ∗ owns (c : Thread nD τ) M1 fullShare X1 ∗ (∃ X, owns (c : Thread nD τ) M2 fullShare X)
        ∗ ((owns (c : Thread nD τ) M0 fullShare X0 ∗ owns (c : Thread nD τ) M1 fullShare X1 ∗ owns (c : Thread nD τ) M2 fullShare (k0_pay1 X1 X0)) -∗ Q ⟨⟩))
      ⊢ wp frame (wpE (defs₀ (F := F)) 𝒱₀ (c : Thread nD τ) none) Set.univ (cc0__key_body M0 h0 M1 h1 M2 h2) Q := by
  unfold owns
  rw [h0.set_eq_univ, h1.set_eq_univ, h2.set_eq_univ, cc0__key_body_eq_skeleton]
  iintro ⟨⟨%f0, %hf0, H0⟩, ⟨%f1, %hf1, H1⟩, ⟨%X, %f2, -, H2⟩, Hk⟩
  unfold cc0__key_body_skel
  sl_exec!
  sl_step
  iapply Hk
  isplitl [H0]; · iexists f0; isplitr; (· ipureintro; exact hf0); iexact H0
  isplitl [H1]; · iexists f1; isplitr; (· ipureintro; exact hf1); iexact H1
  iexists _; isplitr; swap; (· iexact H2)
  ipureintro
  refine (store_whole M2.view _ zeros2 _ _).trans ?_
  rw [load_whole M0.view f0 zeros2, load_whole M1.view f1 zeros2, hf0, hf1]

/-- The last kernel at a point of the histogram's rows. -/
theorem final_body (c : Dev nD) (i : grid2.Coords) (M0 : Memref sig .tc .vmem S512x2048 .i32) (M1 : Memref sig .tc .vmem S512x1 .f32)
    (M2 : Memref sig .tc .vmem S1x2048 .f32) (M3 : Memref sig .tc .vmem S512x2048 .f32) (h0 : M0.IsWhole) (h1 : M1.IsWhole) (h2 : M2.IsWhole) (h3 : M3.IsWhole)
    (X0 : S512x2048.Idx → Elt F .i32) (X1 : S512x1.Idx → Elt F .f32) (X2 : S1x2048.Idx → Elt F .f32) (Q : PUnit → sProp 𝕄)
    (hi : k2_cond1 i = 1#1) (hi' : ¬ k2_cond2 i = 1#1) :
    iprop(owns (c : Thread nD τ) M0 fullShare X0 ∗ owns (c : Thread nD τ) M1 fullShare X1 ∗ owns (c : Thread nD τ) M2 fullShare X2 ∗ (∃ X, owns (c : Thread nD τ) M3 fullShare X)
        ∗ ((owns (c : Thread nD τ) M0 fullShare X0 ∗ owns (c : Thread nD τ) M1 fullShare X1 ∗ owns (c : Thread nD τ) M2 fullShare X2
          ∗ owns (c : Thread nD τ) M3 fullShare (k2_pay1 X0 X1 X2)) -∗ Q ⟨⟩))
      ⊢ wp frame (wpE (defs₀ (F := F)) 𝒱₀ (c : Thread nD τ) none) Set.univ (cc2__tc_body i M0 h0 M1 h1 M2 h2 M3 h3) Q := by
  unfold owns
  rw [h0.set_eq_univ, h1.set_eq_univ, h2.set_eq_univ, h3.set_eq_univ, cc2__tc_body_eq_skeleton]
  iintro ⟨⟨%f0, %hf0, H0⟩, ⟨%f1, %hf1, H1⟩, ⟨%f2, %hf2, H2⟩, ⟨%X, %f3, -, H3⟩, Hk⟩
  unfold cc2__tc_body_skel
  rw [dif_pos hi, dif_neg hi']
  sl_exec!
  sl_step
  iapply Hk
  isplitl [H0]; · iexists f0; isplitr; (· ipureintro; exact hf0); iexact H0
  isplitl [H1]; · iexists f1; isplitr; (· ipureintro; exact hf1); iexact H1
  isplitl [H2]; · iexists f2; isplitr; (· ipureintro; exact hf2); iexact H2
  iexists _; isplitr; swap; (· iexact H3)
  ipureintro
  refine (store_whole M3.view _ zeros2 _ _).trans ?_
  rw [load_whole M0.view f0 zeros2, load_whole M1.view f1 zeros2, load_whole M2.view f2 zeros2, hf0, hf1, hf2]

/-- The last kernel at a point past them. -/
theorem final_body_zero (c : Dev nD) (i : grid2.Coords) (M0 : Memref sig .tc .vmem S512x2048 .i32) (M1 : Memref sig .tc .vmem S512x1 .f32)
    (M2 : Memref sig .tc .vmem S1x2048 .f32) (M3 : Memref sig .tc .vmem S512x2048 .f32) (h0 : M0.IsWhole) (h1 : M1.IsWhole) (h2 : M2.IsWhole) (h3 : M3.IsWhole)
    (Q : PUnit → sProp 𝕄) (hi : ¬ k2_cond1 i = 1#1) (hi' : k2_cond2 i = 1#1) :
    iprop((∃ X, owns (c : Thread nD τ) M3 fullShare X) ∗ (owns (c : Thread nD τ) M3 fullShare (k2_pay2 (F := F)) -∗ Q ⟨⟩))
      ⊢ wp frame (wpE (defs₀ (F := F)) 𝒱₀ (c : Thread nD τ) none) Set.univ (cc2__tc_body i M0 h0 M1 h1 M2 h2 M3 h3) Q := by
  unfold owns
  rw [h3.set_eq_univ, cc2__tc_body_eq_skeleton]
  iintro ⟨⟨%X, %f3, -, H3⟩, Hk⟩
  unfold cc2__tc_body_skel
  rw [dif_neg hi, dif_pos hi']
  sl_exec!
  sl_step
  iapply Hk
  iexists _; isplitr; swap; (· iexact H3)
  ipureintro
  exact store_whole M3.view _ zeros2 _ _
end Cert.Proof

end
-- ==== Proof.Dats.lean ====
/-
  The two TensorCore kernels' proof data, entered from any valuation of the core's unscoped buffers: what each point finds in the
  staging buffers and what it leaves in them.
-/
module

public import proofs.«01_k».proof.Proof.Bodies
public import proofs.«01_k».proof.Proof.Gen.KernelIdeal.Points

@[expose] public section

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat PLaunchFacts RegionSeg afterRegion ucRefs BodyObligation)

variable {F : FTy → Type} [FloatOps F]

local notation "𝕄" => MT nD τ sig (HIx 1) (Elt F) ℕ UU ℕ

/-! ## The keys' kernel -/

/-- Its two operands' blocks, as fetched. -/
abbrev in0_0 (W : Valuation τ sig (Elt F)) (t : Fin cfg0.N) : S256x1024.Idx → Elt F .i32 := ((cfg0.win 0).blk t).view.read (Elt F) (W (Proc.devRef .tc main_v0))
abbrev in0_1 (W : Valuation τ sig (Elt F)) (t : Fin cfg0.N) : S256x1024.Idx → Elt F .i32 := ((cfg0.win 1).blk t).view.read (Elt F) (W (Proc.devRef .tc main_v1))

/-- Its proof data. -/
def dat0 (W : Dev nD → Valuation τ sig (Elt F)) (c : Dev nD) : Dat τ (Elt F) (HIx 1) ℕ UU ℕ cfg0 c where
  A w := W c (Proc.devRef .tc (Pipeline.arrRef spec0 w))
  after w t := match w with
    | ⟨0, _⟩ => in0_0 (W c) t
    | ⟨1, _⟩ => in0_1 (W c) t
    | ⟨2, _⟩ => k0_pay1 (in0_1 (W c) t) (in0_0 (W c) t)
  Φ _ := Pipeline.scopedRest spec0 c
  q _ := fullShare
  owed _ := (K (F := F)).Otc c 0
  recorded _ := lowPairs (F := F) c 0

theorem before0_0 (W : Dev nD → Valuation τ sig (Elt F)) (c : Dev nD) (t : Fin cfg0.N) (d) : (dat0 W c).before 0 t d = in0_0 (W c) t := by
  unfold Dat.before; rw [if_pos (fetch0_0 t)]; rfl

theorem before0_1 (W : Dev nD → Valuation τ sig (Elt F)) (c : Dev nD) (t : Fin cfg0.N) (d) : (dat0 W c).before 1 t d = in0_1 (W c) t := by
  unfold Dat.before; rw [if_pos (fetch0_1 t)]; rfl

theorem body0 (W : Dev nD → Valuation τ sig (Elt F)) (c : Dev nD) : BodyObligation (dat0 W c) (defs₀ (F := F)) 𝒱₀ (none : HIx 1) Set.univ := fun t => by
  rw [bigSep_W0, bigSep_W0]
  rw [show (dat0 W c).Φ t.succ = (dat0 W c).Φ t.castSucc from rfl,
    show (dat0 W c).owesAt (none : HIx 1) t.succ = (dat0 W c).owesAt (none : HIx 1) t.castSucc from rfl]
  iintro ⟨HΦ, Howes, ⟨%d0, H0⟩, ⟨%d1, H1⟩, ⟨%d2, H2⟩⟩
  rw [before0_0, before0_1]
  iapply (key_body c ((cfg0.win 0).stage (cfg0.slots t 0)) ((cfg0.win 1).stage (cfg0.slots t 1)) ((cfg0.win 2).stage (cfg0.slots t 2))
    (hstage0_0 0) (hstage0_1 0) (hstage0_2 0) (in0_0 (W c) t) (in0_1 (W c) t) _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-! ## The last kernel -/

/-- Its first operand is cut nowhere. -/
theorem clip2_0 : ∀ (i : grid2.Coords) (a : Fin 2), win2_0.clip i a = none := by decide +kernel

theorem idle2_3 : ∀ i : grid2.Coords, cfg2.idle 3 i = false := by decide +kernel

/-- Its operands' blocks, as fetched. -/
abbrev in2_0 (W : Valuation τ sig (Elt F)) (t : Fin cfg2.N) : S512x2048.Idx → Elt F .i32 :=
  (cfg2.win 0).fill (cfg2.grid.coords t) (fun _ => (0#32 : BitVec 32)) (((cfg2.win 0).blk t).view.read (Elt F) (W (Proc.devRef .tc main_v5)))
abbrev in2_1 (W : Valuation τ sig (Elt F)) (t : Fin cfg2.N) : S512x1.Idx → Elt F .f32 := ((cfg2.win 1).blk t).view.read (Elt F) (W (Proc.devRef .tc main_v7))
abbrev in2_2 (W : Valuation τ sig (Elt F)) (t : Fin cfg2.N) : S1x2048.Idx → Elt F .f32 := ((cfg2.win 2).blk t).view.read (Elt F) (W (Proc.devRef .tc main_v9))

/-- What a point leaves in the result's buffer. -/
def out2 (W : Valuation τ sig (Elt F)) (t : Fin cfg2.N) : S512x2048.Idx → Elt F .f32 :=
  if k2_cond1 (grid2.coords t) = 1#1 then k2_pay1 (in2_0 W t) (in2_1 W t) (in2_2 W t) else k2_pay2

/-- Its proof data. -/
def dat2 (W : Dev nD → Valuation τ sig (Elt F)) (c : Dev nD) : Dat τ (Elt F) (HIx 1) ℕ UU ℕ cfg2 c where
  A w := W c (Proc.devRef .tc (Pipeline.arrRef spec2 w))
  after w t := match w with
    | ⟨0, _⟩ => in2_0 (W c) t
    | ⟨1, _⟩ => in2_1 (W c) t
    | ⟨2, _⟩ => in2_2 (W c) t
    | ⟨3, _⟩ => out2 (W c) t
  Φ _ := Pipeline.scopedRest spec2 c
  q _ := fullShare
  owed _ := (K (F := F)).Otc c 1
  recorded _ := lowPairs (F := F) c 1

theorem before2_0 (W : Dev nD → Valuation τ sig (Elt F)) (c : Dev nD) (t : Fin cfg2.N) (d) : (dat2 W c).before 0 t d = in2_0 (W c) t :=
  ((dat2 W c).before_in_eq_fetched 0 rfl (fun _ => rfl) (fun t t' _ => by funext a; exact (clip2_0 _ a).trans (clip2_0 _ a).symm)
    (fun t => (cfg2.win 0).cut_fill _ _ _) t d).trans
    (Pipeline.fill_of_clip_none (cfg := cfg2) 0 _ (clip2_0 _) _ _ _)

theorem before2_1 (W : Dev nD → Valuation τ sig (Elt F)) (c : Dev nD) (t : Fin cfg2.N) (d) : (dat2 W c).before 1 t d = in2_1 (W c) t :=
  (dat2 W c).before_in_eq_fetched 1 rfl (fun _ => rfl) (fun _ _ _ => rfl) (fun _ => rfl) t d

theorem before2_2 (W : Dev nD → Valuation τ sig (Elt F)) (c : Dev nD) (t : Fin cfg2.N) (d) : (dat2 W c).before 2 t d = in2_2 (W c) t :=
  (dat2 W c).before_in_eq_fetched 2 rfl (fun _ => rfl) (fun _ _ _ => rfl) (fun _ => rfl) t d

/-- At every point one of the two conditions holds and the other fails. -/
theorem conds2 : ∀ i : grid2.Coords, (k2_cond1 i = 1#1 ∧ ¬ k2_cond2 i = 1#1) ∨ (¬ k2_cond1 i = 1#1 ∧ k2_cond2 i = 1#1) := by decide +kernel

theorem body2 (W : Dev nD → Valuation τ sig (Elt F)) (c : Dev nD) : BodyObligation (dat2 W c) (defs₀ (F := F)) 𝒱₀ (none : HIx 1) Set.univ := fun t => by
  rw [bigSep_W2, bigSep_W2]
  simp only [idle2_3]
  rw [show (dat2 W c).Φ t.succ = (dat2 W c).Φ t.castSucc from rfl,
    show (dat2 W c).owesAt (none : HIx 1) t.succ = (dat2 W c).owesAt (none : HIx 1) t.castSucc from rfl]
  iintro ⟨HΦ, Howes, ⟨%d0, H0⟩, ⟨%d1, H1⟩, ⟨%d2, H2⟩, ⟨%d3, H3⟩⟩
  rw [before2_0, before2_1, before2_2]
  rcases conds2 (grid2.coords t) with ⟨h1, h2⟩ | ⟨h1, h2⟩
  · iapply (final_body c (grid2.coords t) ((cfg2.win 0).stage (cfg2.slots t 0)) ((cfg2.win 1).stage (cfg2.slots t 1)) ((cfg2.win 2).stage (cfg2.slots t 2))
      ((cfg2.win 3).stage (cfg2.slots t 3)) (hstage2_0 ((cfg2.slots t 0).cast nbuf2_0)) (hstage2_1 ((cfg2.slots t 1).cast nbuf2_1))
      (hstage2_2 ((cfg2.slots t 2).cast nbuf2_2)) (hstage2_3 ((cfg2.slots t 3).cast nbuf2_3)) (in2_0 (W c) t) (in2_1 (W c) t) (in2_2 (W c) t) _ h1 h2)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Howes]; · iexact Howes
    isplitl [H0]; · iexact H0
    isplitl [H1]; · iexact H1
    isplitl [H2]; · iexact H2
    rw [show (dat2 W c).after 3 t = k2_pay1 (in2_0 (W c) t) (in2_1 (W c) t) (in2_2 (W c) t) from if_pos h1, show idle2 3 (grid2.coords t) = false from idle2_3 _]
    iexact H3
  · iapply (final_body_zero c (grid2.coords t) ((cfg2.win 0).stage (cfg2.slots t 0)) ((cfg2.win 1).stage (cfg2.slots t 1)) ((cfg2.win 2).stage (cfg2.slots t 2))
      ((cfg2.win 3).stage (cfg2.slots t 3)) (hstage2_0 ((cfg2.slots t 0).cast nbuf2_0)) (hstage2_1 ((cfg2.slots t 1).cast nbuf2_1))
      (hstage2_2 ((cfg2.slots t 2).cast nbuf2_2)) (hstage2_3 ((cfg2.slots t 3).cast nbuf2_3)) _ h1 h2)
    isplitl [H3]; · iexists _; iexact H3
    iintro H3
    isplitl [HΦ]; · iexact HΦ
    isplitl [Howes]; · iexact Howes
    isplitl [H0]; · iexact H0
    isplitl [H1]; · iexact H1
    isplitl [H2]; · iexact H2
    rw [show (dat2 W c).after 3 t = k2_pay2 from if_neg h1, show idle2 3 (grid2.coords t) = false from idle2_3 _]
    iexact H3

/-! ## Both -/

/-- The proof data of the run: the keys' kernel entered at `W0`, the last at `W2`. -/
def dats (W0 W2 : Dev nD → Valuation τ sig (Elt F)) : Dats F
  | ⟨0, _⟩ => fun c => dat0 W0 c
  | ⟨1, _⟩ => fun c => dat2 W2 c

set_option backward.isDefEq.respectTransparency.types false in
/-- The keys' kernel as a step of @main. -/
def seg0 (W0 W2 : Dev nD → Valuation τ sig (Elt F)) :
    RegionSeg (pcfgs (F := F)) adm (dats W0 W2) none defs₀ 𝒱₀ (K (F := F)).L (K (F := F)).lev 0 :=
  seg (dats W0 W2) 0 0 W0 launch0.toP rfl (fun c => (body0 W0 c).loose) (fun _ _ => rfl) (fun _ _ => rfl)
    (fun c => (dat0 W0 c).share_full fun _ => rfl) (fun _ _ => rfl) (fun _ _ => rfl)

theorem rest2 (W : Dev nD → Valuation τ sig (Elt F)) (c : Dev nD) (t) : (dat2 W c).Φ t = Pipeline.scopedRest spec2 c := rfl

set_option backward.isDefEq.respectTransparency.types false in
/-- The last kernel as a step of @main. -/
def seg2 (W0 W2 : Dev nD → Valuation τ sig (Elt F)) :
    RegionSeg (pcfgs (F := F)) adm (dats W0 W2) none defs₀ 𝒱₀ (K (F := F)).L (K (F := F)).lev 1 :=
  seg (dats W0 W2) 1 1 W2 launch2.toP rfl (fun c => (body2 W2 c).loose) (fun _ _ => rfl) (fun _ _ => rfl)
    (fun c => (dat2 W2 c).share_full fun _ => rfl) (rest2 W2) (fun _ _ => rfl)

end Cert.Proof

end
-- ==== Proof.Main.lean ====
/-
  @main on the TensorCore: the buffers' contents step by step, the two TensorCore kernels and the SparseCore call in their places, and
  the program's run.
-/
module

public import proofs.«01_k».proof.Proof.Call
public import proofs.«01_k».proof.Proof.Dats

@[expose] public section

noncomputable section

namespace Cert.Proof

open Cert.KernelIdeal Cert.KernelIdeal.Gen

open Idealize.ShloMosaic Idealize.ShloMosaic.TcCoe Idealize.ShloMosaic.Tactic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg afterRegion ucRefs cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents, step by step -/

abbrev opA : HloOp τ sig (Elt F) := StableHlo.reshape main_arg0 main_v0 (rfl : (.i32 : EltTy) = .i32) shapeCasts_S262144_S256x1024
abbrev opB : HloOp τ sig (Elt F) := StableHlo.reshape main_arg1 main_v1 (rfl : (.i32 : EltTy) = .i32) shapeCasts_S262144_S256x1024
abbrev opC : HloOp τ sig (Elt F) := StableHlo.reshape main_v2 main_v3 (rfl : (.i32 : EltTy) = .i32) shapeCasts_S256x1024_S262144
abbrev opE : HloOp τ sig (Elt F) := StableHlo.reshape main_v4 main_v5 (rfl : (.i32 : EltTy) = .i32) shapeCasts_S17039360_S8320x2048
abbrev opG : HloOp τ sig (Elt F) := StableHlo.unary main_arg3 main_v6 (sitofp .f32 : (⟨S8192, .i32⟩ : BufTy).Contents (Elt F) → (⟨S8192, .f32⟩ : BufTy).Contents (Elt F))
abbrev opH : HloOp τ sig (Elt F) := StableHlo.reshape main_v6 main_v7 (rfl : (.f32 : EltTy) = .f32) shapeCasts_S8192_S8192x1
abbrev opI : HloOp τ sig (Elt F) := StableHlo.unary main_arg2 main_v8 (sitofp .f32 : (⟨S2048, .i32⟩ : BufTy).Contents (Elt F) → (⟨S2048, .f32⟩ : BufTy).Contents (Elt F))
abbrev opJ : HloOp τ sig (Elt F) := StableHlo.reshape main_v8 main_v9 (rfl : (.f32 : EltTy) = .f32) shapeCasts_S2048_S1x2048

abbrev k' : DevRef τ sig := Proc.devRef .tc (main_v3 : Ref sig .tc)
abbrev h' : DevRef τ sig := Proc.devRef .tc (main_v4 : Ref sig .tc)

/-- At the launch; when the keys' kernel is called; after it; with its result flattened. -/
def VL (d : Dev nD) : Valuation τ sig (Elt F) := fun b => m (d, b)
def V0 (d : Dev nD) : Valuation τ sig (Elt F) := (opB (F := F)).result ((opA (F := F)).result (VL m d))
def V1 (d : Dev nD) : Valuation τ sig (Elt F) := afterRegion (dat0 (V0 m) d) (V0 m d)
def V2 (d : Dev nD) : Valuation τ sig (Elt F) := (opC (F := F)).result (V1 m d)
/-- The keys as the SparseCore call is handed them, and its result's array. -/
def keys (d : Dev nD) : Buf (Elt F) (kLoc d) := V2 m d k'
def hist₀ (d : Dev nD) : Buf (Elt F) (hLoc d) := V2 m d h'
/-- After the call; when the last kernel is called; after it. -/
def V3 (d : Dev nD) : Valuation τ sig (Elt F) := Function.update (V2 m d) h' (histBuf (keys m) d)
def V4 (d : Dev nD) : Valuation τ sig (Elt F) :=
  (opJ (F := F)).result ((opI (F := F)).result ((opH (F := F)).result ((opG (F := F)).result ((opE (F := F)).result (V3 m d)))))
def V5 (d : Dev nD) : Valuation τ sig (Elt F) := afterRegion (dat2 (V4 m) d) (V4 m d)

abbrev datsM : Dats F := dats (V0 m) (V4 m)

/-! ## The steps -/

/-- A TensorCore kernel called from @main. -/
theorem region_step (dats : Dats F) (p : Fin 2) (R : RegionSeg (pcfgs (F := F)) adm dats none defs₀ 𝒱₀ (K (F := F)).L (K (F := F)).lev p) (d : Dev nD) :
    iprop(boundary (T d) ∗ R.pre d ∗ levAts (K (F := F)).L (K (F := F)).lev
        ∗ cellsGhost (Pipeline.pin (pcfgs (F := F)) adm) EP p d ∗ toksInit (Pipeline.pin (pcfgs (F := F)) adm) EP p d)
      ⊢ wp frame (wpE ((K (F := F)).defs (D (F := F))) 𝒱 (T d) none) Set.univ
          (Prog.lift (.customCall (SparseCore.inner (Pipeline.entry p)) ())) fun _ => iprop(boundary (T d) ∗ R.post d) := by
  show _ ⊢ wp _ _ _ (SparseCore.liftProg (.op (.customCall (Pipeline.entry p) ()) .ret)) _
  refine BI.Entails.trans ?_ ((K (F := F)).wp_liftProg (D (F := F)) 𝒱 (T d) Set.univ none _ _)
  refine BI.Entails.trans ?_ (RegionSeg.wp (pcfgs (F := F)) adm dats none cellOf_inj EP defs₀ 𝒱₀ _ _ R d none (fun _ h => nomatch h) .ret _)
  change (_ : sProp 𝕄) ⊢ _
  iintro ⟨Hb, Hp, Hl, Hg, Ht⟩
  isplitr
  · iintro ⟨Hb, Hp⟩
    rw [wp_ret]; imodintro
    isplitl [Hb]; · iexact Hb
    iexact Hp
  isplitl [Hb]; · iexact Hb
  isplitl [Hp]; · iexact Hp
  isplitl [Hl]; · iexact Hl
  isplitl [Hg] <;> iassumption

set_option backward.isDefEq.respectTransparency.types false in
/-- The keys' kernel called from @main. -/
theorem key_step (d : Dev nD) :
    iprop(boundary (T d) ∗ (StableHlo.held (T d) (ucRefs τ sig) (V0 m d) ∗ owing (F := F) d 0) ∗ levAts (K (F := F)).L (K (F := F)).lev
        ∗ cellsGhost (Pipeline.pin (pcfgs (F := F)) adm) EP 0 d ∗ toksInit (Pipeline.pin (pcfgs (F := F)) adm) EP 0 d)
      ⊢ wp frame (wpE ((K (F := F)).defs (D (F := F))) 𝒱 (T d) none) Set.univ
          (Prog.lift (.customCall (SparseCore.inner (Pipeline.entry 0)) ()))
          fun _ => iprop(boundary (T d) ∗ StableHlo.held (T d) (ucRefs τ sig) (V1 m d) ∗ owing (F := F) d 0) :=
  region_step (datsM m) 0 (seg0 (V0 m) (V4 m)) d

set_option backward.isDefEq.respectTransparency.types false in
/-- The last kernel called from @main. -/
theorem final_step (d : Dev nD) :
    iprop(boundary (T d) ∗ (StableHlo.held (T d) (ucRefs τ sig) (V4 m d) ∗ owing (F := F) d 1) ∗ levAts (K (F := F)).L (K (F := F)).lev
        ∗ cellsGhost (Pipeline.pin (pcfgs (F := F)) adm) EP 1 d ∗ toksInit (Pipeline.pin (pcfgs (F := F)) adm) EP 1 d)
      ⊢ wp frame (wpE ((K (F := F)).defs (D (F := F))) 𝒱 (T d) none) Set.univ
          (Prog.lift (.customCall (SparseCore.inner (Pipeline.entry 1)) ()))
          fun _ => iprop(boundary (T d) ∗ StableHlo.held (T d) (ucRefs τ sig) (V5 m d) ∗ owing (F := F) d 1) :=
  region_step (datsM m) 1 (seg2 (V0 m) (V4 m)) d

/-- A host operation of @main. -/
theorem host_step (d : Dev nD) (op : HloOp τ sig (Elt F)) (hop : op.bufs ⊆ tcRefs τ sig) (hf : op.fresh = ∅) (V : Valuation τ sig (Elt F)) :
    (iprop(boundary (T d) ∗ StableHlo.held (T d) (ucRefs τ sig) V) : sProp 𝕄)
      ⊢ wp frame (wpE ((K (F := F)).defs (D (F := F))) 𝒱 (T d) none) Set.univ (hlo rfl op fun _ => .ret (⟨⟩ : PUnit))
          fun _ => iprop(boundary (T d) ∗ StableHlo.held (T d) (ucRefs τ sig) (op.result V)) := by
  iintro ⟨Hb, Hh⟩
  iapply (wp_hlo_within 𝒱 (T d) none Set.univ (op := op) (S := ucRefs τ sig) (Pipeline.sub_ucRefs op hop) (V := V) hf) $$ [Hb Hh]
  · isplitl [Hb] <;> iassumption
  iintro ⟨Hb, Hh⟩
  rw [wp_ret]; imodintro
  isplitl [Hb] <;> iassumption

/-- The call's two arrays among the unscoped buffers. -/
theorem held_call (d : Dev nD) (V : Valuation τ sig (Elt F)) :
    (StableHlo.held (T d) (ucRefs τ sig) V : sProp 𝕄)
      = iprop(((kLoc d ↦{fullShare} V k') ∗ (hLoc d ↦{fullShare} V h')) ∗ StableHlo.held (T d) (ucRefs τ sig \ {k', h'}) V) := by
  rw [StableHlo.held_sub_split (T d) (show ({k', h'} : Finset (DevRef τ sig)) ⊆ ucRefs τ sig by decide) V]
  congr 1
  unfold StableHlo.held
  rw [SparseCore.bigSep_insert' (by decide), bigSep_singleton]

theorem V3_k (d : Dev nD) : V3 m d k' = keys m d := Function.update_of_ne (show k' ≠ h' by decide) _ _
theorem V3_h (d : Dev nD) : V3 m d h' = histBuf (keys m) d := Function.update_self _ _ _

theorem held_rest (d : Dev nD) :
    (StableHlo.held (T d) (ucRefs τ sig \ {k', h'}) (V3 m d) : sProp 𝕄) = StableHlo.held (T d) (ucRefs τ sig \ {k', h'}) (V2 m d) :=
  StableHlo.held_congr (T d) fun b hb => Function.update_of_ne (fun e => (Finset.mem_sdiff.mp hb).2 (by rw [e]; decide)) _ _

abbrev PM : (K (F := F)).Pay (nD := nD) (Val := Elt F) (Name := ℕ) (U := UU) := P (keys m) (hist₀ m)

/-- The SparseCore call of @main: the keys kept, the histogram's array at their histogram. -/
theorem call_step (κ : GSem nD τ sig → ℕ) (d : Dev nD) :
    iprop((K (F := F)).ctx EH (PM m) κ ∗ (K (F := F)).tcSt EH d 0 ∗ StableHlo.held (T d) (ucRefs τ sig) (V2 m d))
      ⊢ wp frame (wpE ((K (F := F)).defs (D (F := F))) 𝒱 (T d) none) Set.univ ((K (F := F)).run d 0)
          fun _ => iprop((K (F := F)).tcSt EH d 1 ∗ StableHlo.held (T d) (ucRefs τ sig) (V3 m d)) := by
  rw [held_call, held_call, V3_k, V3_h, held_rest]
  rw [show V2 m d k' = keys m d from rfl, show V2 m d h' = hist₀ m d from rfl,
    tilePts_split d (keys m d) (hist₀ m d), tilePts_split d (keys m d) (histBuf (keys m) d)]
  iintro ⟨Hctx, Hst, Hc, Hr⟩
  iapply ((K (F := F)).wp_run (D (F := F)) 𝒱 (EH := EH) (P := PM m) κ d 0)
  isplitl [Hctx]; · iexact Hctx
  isplitl [Hst]; · iexact Hst
  isplitl [Hc]; · iexact Hc
  iintro ⟨Hst, Hdn⟩
  isplitl [Hst]; · iexact Hst
  isplitl [Hdn]; · iexact Hdn
  iexact Hr

/-! ## @main -/

/-- The pipelines' ghost state a device's @main is handed. -/
def G (d : Dev nD) : sProp 𝕄 :=
  iprop((bigSep Finset.univ fun p : Fin 2 => cellsGhost (Pipeline.pin (pcfgs (F := F)) adm) EP p d)
    ∗ bigSep Finset.univ fun p : Fin 2 => toksInit (Pipeline.pin (pcfgs (F := F)) adm) EP p d)

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- What @main ends with: the unscoped buffers at the last contents. -/
abbrev FIN (d : Dev nD) : sProp 𝕄 := StableHlo.held (T d) (ucRefs τ sig) (V5 m d)

/-- What the core owes, apart from the rest of its state between calls. -/
theorem tcSt_owing (d : Dev nD) (n : ℕ) : ∃ R : sProp 𝕄, (K (F := F)).tcSt EH d n = iprop(owing (F := F) d n ∗ R) := ⟨_, rfl⟩

theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (T d) (ucRefs τ sig) (VL m d) from
    Pipeline.unscopedBufs_held d (VL m d)]
  unfold G
  rw [bigSep_two, bigSep_two]
  obtain ⟨R0, hR0⟩ := tcSt_owing (F := F) d 0
  obtain ⟨R1, hR1⟩ := tcSt_owing (F := F) d 1
  simp only [main, wp_bind, wp_pure]
  iintro ⟨#Hctx, Hst, ⟨Hb, Hh, Hts, -⟩, ⟨⟨Hg0, Hg2⟩, Ht0, Ht2⟩⟩
  iapply ((host_step d opA (reshape_bufs_sub ..) rfl (VL m d)).trans (wp_wand frame _ _)) $$ [Hb Hh]
  · isplitl [Hb] <;> iassumption
  iintro %_ ⟨Hb, Hh⟩
  iapply ((host_step d opB (reshape_bufs_sub ..) rfl _).trans (wp_wand frame _ _)) $$ [Hb Hh]
  · isplitl [Hb] <;> iassumption
  iintro %_ ⟨Hb, Hh⟩
  -- the keys
  ihave Hst := (Entails.of_eq hR0) $$ Hst
  icases Hst with ⟨HO, HR⟩
  ihave #Hlv := (SparseCore.Cfg.ctx_levAts (K := K (F := F)) (EH := EH) (P := PM m) κ) $$ Hctx
  iapply ((key_step m d).trans (wp_wand frame _ _)) $$ [Hb Hh HO Hg0 Ht0]
  · isplitl [Hb]; · iexact Hb
    isplitl [Hh HO]
    · isplitl [Hh]; · iexact Hh
      iexact HO
    isplitr; · iexact Hlv
    isplitl [Hg0] <;> iassumption
  iintro %_ ⟨Hb, Hh, HO⟩
  iapply ((host_step d opC (reshape_bufs_sub ..) rfl (V1 m d)).trans (wp_wand frame _ _)) $$ [Hb Hh]
  · isplitl [Hb] <;> iassumption
  iintro %_ ⟨Hb, Hh⟩
  -- the counts
  ihave Hst := (Entails.of_eq hR0.symm) $$ [HO HR]
  · isplitl [HO]; · iexact HO
    iexact HR
  iapply ((call_step m κ d).trans (wp_wand frame _ _)) $$ [Hst Hh]
  · isplitr; · iexact Hctx
    isplitl [Hst]; · iexact Hst
    iexact Hh
  iintro %_ ⟨Hst, Hh⟩
  iapply ((host_step d opE (reshape_bufs_sub ..) rfl (V3 m d)).trans (wp_wand frame _ _)) $$ [Hb Hh]
  · isplitl [Hb] <;> iassumption
  iintro %_ ⟨Hb, Hh⟩
  iapply ((host_step d opG (unary_bufs_sub ..) rfl _).trans (wp_wand frame _ _)) $$ [Hb Hh]
  · isplitl [Hb] <;> iassumption
  iintro %_ ⟨Hb, Hh⟩
  iapply ((host_step d opH (reshape_bufs_sub ..) rfl _).trans (wp_wand frame _ _)) $$ [Hb Hh]
  · isplitl [Hb] <;> iassumption
  iintro %_ ⟨Hb, Hh⟩
  iapply ((host_step d opI (unary_bufs_sub ..) rfl _).trans (wp_wand frame _ _)) $$ [Hb Hh]
  · isplitl [Hb] <;> iassumption
  iintro %_ ⟨Hb, Hh⟩
  iapply ((host_step d opJ (reshape_bufs_sub ..) rfl _).trans (wp_wand frame _ _)) $$ [Hb Hh]
  · isplitl [Hb] <;> iassumption
  iintro %_ ⟨Hb, Hh⟩
  -- the last kernel
  ihave Hst := (Entails.of_eq hR1) $$ Hst
  icases Hst with ⟨HO, HR⟩
  iapply ((final_step m d).trans (wp_wand frame _ _)) $$ [Hb Hh HO Hg2 Ht2]
  · isplitl [Hb]; · iexact Hb
    isplitl [Hh HO]
    · isplitl [Hh]; · iexact Hh
      iexact HO
    isplitr; · iexact Hlv
    isplitl [Hg2] <;> iassumption
  iintro %_ ⟨Hb, Hh, HO⟩
  ihave Hst := (Entails.of_eq hR1.symm) $$ [HO HR]
  · isplitl [HO]; · iexact HO
    iexact HR
  imodintro
  isplitl [Hst]; · iexact Hst
  isplitl [Hh]; · iexact Hh
  isplitl [Hb] <;> iassumption

end Cert.Proof

end
-- ==== Proof.Run.lean ====
/-
  The program's run: from any memory it ends with every unscoped buffer of the TensorCore at the last contents of @main.
-/
module

public import proofs.«01_k».proof.Proof.Main

@[expose] public section

noncomputable section

namespace Cert.Proof

open Cert.KernelIdeal Cert.KernelIdeal.Gen

open Idealize.ShloMosaic Idealize.ShloMosaic.TcCoe Idealize.ShloMosaic.Tactic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The handshakes' rounds and the pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  unfold u₀
  iintro Hu
  ihave H := (ownU_pair _ _) $$ Hu
  icases H with ⟨HH, HP⟩
  ihave HP' : BI.own (EP (F := F) (initOf (Pipeline.cells (Pipeline.pin (pcfgs (F := F)) adm) cellOf_inj)
      (Pipeline.launchToks (Pipeline.pin (pcfgs (F := F)) adm) cellOf_inj))) $$ [HP]
  · iexact HP
  imod (Pipeline.fund_ghost (Pipeline.pin (pcfgs (F := F)) adm) EP cellOf_inj) $$ HP' with ⟨Hg, Ht⟩
  imodintro
  isplitl [HH]; · iexact HH
  isplitl [Hg Ht]
  · unfold G
    rw [bigSep_sep']
    isplitl [Hg]; · iexact Hg
    iexact Ht
  unfold PM P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The end -/

/-- A buffer held whole is the memory's. -/
theorem held_read (d : Dev nD) (W : Valuation τ sig (Elt F)) (b : DevRef τ sig) (hb : b ∈ ucRefs τ sig) (s' : Phys nD τ sig (Elt F)) :
    iprop(StableHlo.held (T d) (ucRefs τ sig) W ∗ SI s') ⊢ (⌜s'.mem.mem (d, b) = W b⌝ : sProp 𝕄) := by
  rw [StableHlo.held_sub_split (T d) (Finset.singleton_subset_iff.mpr hb) W]
  rw [show (StableHlo.held (T d) {b} W : sProp 𝕄) = (((d, b) : Loc nD τ sig) ↦{fullShare} W b) from by
    unfold StableHlo.held; rw [bigSep_singleton]]
  iintro ⟨⟨Hx, -⟩, HSI⟩
  ihave H := (SI_pointsTo_agree (st := s') (ℓ := ((d, b) : Loc nD τ sig)) (I := Finset.univ) (q := fullShare) (f := W b)) $$ [HSI Hx]
  · isplitl [HSI] <;> iassumption
  icases H with %hx
  ipureintro; exact funext fun i => hx i (Finset.mem_univ i)

/-- What the run ends with on device `d`. -/
def fq (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜fq m d s'⌝ : sProp 𝕄) := by
  unfold fq
  have h (b : DevRef τ sig) : iprop(FIN m d ∗ SI s') ⊢ (⌜b ∈ ucRefs τ sig → s'.mem.mem (d, b) = V5 m d b⌝ : sProp 𝕄) := by
    by_cases hb : b ∈ ucRefs τ sig
    · exact (held_read d (V5 m d) b hb s').trans (Laws.pure_mono fun e _ => e)
    · iintro -
      ipureintro
      exact fun h => absurd h hb
  exact (BI.Laws.forall_intro h).trans Laws.pure_forall.2

def QC : PUnit × MemSt nD τ sig (Elt F) → Prop := fun r => (∀ (d : Dev nD), ∀ b ∈ ucRefs τ sig, r.2.mem (d, b) = V5 m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (keys m) (hist₀ m) facts)
    (fun q _ => match q with | 0 => SparseCore.Cfg.VecSplit.of_plain (vecSplit (keys m) (hist₀ m)))
    m ρ main (fun d => G d) (FIN m) (u₀ (F := F)) (sep_elim_left.trans (hu₀ m)) (hmain m ρ) (fq m) (hfin m) (QC m) (fun _ h hz => ⟨h, hz⟩)

end Cert.Proof

end
-- ==== Proof.Frames.lean ====
/-
  The two frames of the kernel: its run leaves its arguments as they were.
-/
module

public import proofs.«01_k».proof.Proof.Run
public import proofs.«01_k».proof.Defs
public import proofs.«01_k».proof.Proof.Gen.Kernel

@[expose] public section

noncomputable section

namespace Cert.Proof

open Cert.KernelIdeal Cert.KernelIdeal.Gen

open Idealize.ShloMosaic Idealize.ShloMosaic.TcCoe Idealize.ShloMosaic.StableHlo
open Idealize.SL.Sem
open Idealize.ShloMosaic.Pipeline (ucRefs)

variable {F : FTy → Type} [FloatOps F]

variable (m : (ℓ : Loc nD τ sig) → Buf (Elt F) ℓ) (ρ : Dev nD → PrngReg)

theorem V1_keeps (d : Dev nD) (r : Ref sig .tc) (h : r ≠ main_v2) : V1 m d (Proc.devRef .tc r) = V0 m d (Proc.devRef .tc r) :=
  Pipeline.afterRegion_keeps (dat0 (V0 m) d) (V0 m d) winFacts0.arr_inj (fun _ => rfl) r fun w hw =>
    match w with
    | 0 => rfl
    | 1 => rfl
    | 2 => absurd hw.symm h

theorem V5_keeps (d : Dev nD) (r : Ref sig .tc) (h : r ≠ main_v10) : V5 m d (Proc.devRef .tc r) = V4 m d (Proc.devRef .tc r) :=
  Pipeline.afterRegion_keeps (dat2 (V4 m) d) (V4 m d) winFacts2.arr_inj (fun _ => rfl) r fun w hw =>
    match w with
    | 0 => rfl
    | 1 => rfl
    | 2 => rfl
    | 3 => absurd hw.symm h

theorem V3_keeps (d : Dev nD) (r : Ref sig .tc) (h : r ≠ main_v4) : V3 m d (Proc.devRef .tc r) = V2 m d (Proc.devRef .tc r) :=
  Function.update_of_ne (fun e => h (Proc.devRef_injective _ e)) _ _

/-- A buffer that no step writes ends as it began. -/
theorem V5_arg (d : Dev nD) (r : Ref sig .tc) (h : ∀ x ∈ [main_v0, main_v1, main_v2, main_v3, main_v4, main_v5, main_v6, main_v7, main_v8, main_v9, main_v10], r ≠ x) :
    V5 m d (Proc.devRef .tc r) = m (d, Proc.devRef .tc r) := by
  rw [V5_keeps m d r (h _ (by decide))]
  unfold V4 opE opG opH opI opJ
  rw [reshape_result_ne (h := h main_v9 (by decide)), unary_result_ne (h := h main_v8 (by decide)),
    reshape_result_ne (h := h main_v7 (by decide)), unary_result_ne (h := h main_v6 (by decide)),
    reshape_result_ne (h := h main_v5 (by decide)), V3_keeps m d r (h _ (by decide))]
  unfold V2 opC
  rw [reshape_result_ne (h := h main_v3 (by decide)), V1_keeps m d r (h _ (by decide))]
  unfold V0 opA opB
  rw [reshape_result_ne (h := h main_v1 (by decide)), reshape_result_ne (h := h main_v0 (by decide))]
  rfl

theorem args_kept (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1 c (Proc.devRef .tc main_arg0) (by decide)).trans (V5_arg m c main_arg0 (by decide)),
    (h.1 c (Proc.devRef .tc main_arg1) (by decide)).trans (V5_arg m c main_arg1 (by decide)),
    (h.1 c (Proc.devRef .tc main_arg2) (by decide)).trans (V5_arg m c main_arg2 (by decide)),
    (h.1 c (Proc.devRef .tc main_arg3) (by decide)).trans (V5_arg m c main_arg3 (by decide))⟩

theorem frame_kernelIdeal : Cert.quiescent_KernelIdeal (hKernelIdeal := Cert.KernelIdeal.Gen.facts) := fun m ρ _ =>
  (θ_run Cert.KernelIdeal.defs _ _).mono (fun r h => ⟨args_kept m r h, h.2⟩) (run_main (F := Ideal) m ρ)

/-- The two programs have one body table: case by case, the same bodies. -/
theorem defs₀_eq : Cert.Kernel.defs₀ (F := Bits) = Cert.KernelIdeal.defs₀ (F := Bits) := by
  funext p ℓ a
  cases p with
  | tc => match ℓ, a with
    | 0, _ => rfl
    | 1, _ => rfl
    | 2, _ => rfl
  | scVector c s => match ℓ, a with
    | 0, _ => rfl
    | 1, _ => rfl
    | 2, _ => rfl
  | scScalar c => match ℓ, a with
    | 0, _ => rfl
    | 1, _ => rfl
    | 2, _ => rfl

theorem defs_eq : Cert.Kernel.defs (F := Bits) = Cert.KernelIdeal.defs (F := Bits) :=
  congrArg (fun D => Cert.KernelIdeal.sc.defs (Pipeline.defs Cert.KernelIdeal.pcfgs D)) defs₀_eq

theorem frame_kernel : Cert.quiescent_Kernel (hKernel := Cert.Kernel.Gen.facts) := fun m ρ _ => by
  rw [defs_eq]
  exact (θ_run Cert.KernelIdeal.defs _ _).mono (fun r (h : QC m r) => ⟨args_kept m r h, h.2⟩) (run_main (F := Bits) m ρ)

end Cert.Proof

end
-- ==== Proof.RefFrame.lean ====
/-
  The reference leaves its arguments as they were and declares no semaphore.
-/
module

public import proofs.«01_k».proof.Proof.Gen.ReferenceIdeal.Run
public import proofs.«01_k».proof.Defs
public import Idealize.ShloMosaic.Lib.Quiescent

@[expose] public section

noncomputable section

namespace Cert.Proof

open Idealize.ShloMosaic Idealize.SL.Sem

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Spectrum.lean ====
/-
  The value at one cell of the spectrum, from the edges and the labels, and the problem's two scatters read at that cell.
-/
module

public import Idealize.ShloMosaic.Lib.Routing.Ops
public import Idealize.ShloMosaic.Lib.Routing.OpsSet
public import Idealize.ShloMosaic.Lib.ValueIdxRank1
public import Idealize.ShloMosaic.PureOps.Ideal

@[expose] public section

noncomputable section

namespace Cert.Proof.Spectrum

open Idealize.ShloMosaic Idealize.ShloMosaic.ValueIdx Idealize.ShloMosaic.Routing

/-! ## The problem at a cell -/

/-- One word for each edge. -/
abbrev Edges : Type := IVec (shape1 262144) 32

/-- The edges from code `r` to case `c`. -/
def edges (code case : Edges) (r c : ℕ) : Finset (Fin 262144) :=
  Finset.univ.filter fun e => (code (ix1 e)).toNat = r ∧ (case (ix1 e)).toNat = c

/-- Row `r` is a code, and it and the case `c` both carry the label one. -/
def Marked (caseY : IVec (shape1 2048) 32) (codeY : IVec (shape1 8192) 32) (r c : ℕ) : Prop :=
  ∃ (hr : r < 8192) (hc : c < 2048), caseY (ix1 ⟨c, hc⟩) = 1#32 ∧ codeY (ix1 ⟨r, hr⟩) = 1#32

open Classical in
/-- The spectrum's cell: minus one where a marked cell has an edge, else the number of edges an unmarked cell has. -/
def cell (code case : Edges) (caseY : IVec (shape1 2048) 32) (codeY : IVec (shape1 8192) 32) (r c : ℕ) : EReal :=
  if Marked caseY codeY r c then if (edges code case r c).card = 0 then 0 else -1 else ((edges code case r c).card : EReal)

/-! ## A scatter by rows of two index words -/

/-- An update of a scatter of scalars into a matrix, its two index words a row of the table, lands where those words say, read signed. -/
theorem lands_row {R C N w : ℕ} (d : ScatterDims (shape2 R C) (shape2 N 2) (shape1 N)) (hi : d.insertedWindowDims = [0, 1])
    (hs : d.scatterDimsToOperandDims = [0, 1]) (hv : d.indexVectorDim = 1) (idx : IVec (shape2 N 2) w) (e : Fin N) (r : Fin R) (c : Fin C) :
    d.resultIdx? (ix1 e) idx = some (ix2 r c) ↔ (idx (ix2 e (0 : Fin 2))).toInt = r.val ∧ (idx (ix2 e (1 : Fin 2))).toInt = c.val := by
  have all : ∀ q : Fin 2, q ∈ ([0, 1] : List (Fin 2)) := by decide
  have pos : ∀ q : Fin 2, List.idxOf q ([0, 1] : List (Fin 2)) = q.val := by decide
  have mem : ∀ q : Fin 2, q ∈ d.scatterDimsToOperandDims := fun q => hs ▸ all q
  have win : ∀ q : Fin 2, d.window (ix1 e) q = 0 := fun q => by
    unfold ScatterDims.window
    have out : q ∉ d.sKept := fun h => (of_decide_eq_true (List.mem_filter.1 h).2 : q ∉ d.insertedWindowDims) (by rw [hi]; exact all q)
    rw [dif_neg out]
  have start : ∀ q : Fin 2, d.start (ix1 e) idx q = (idx (ix2 e q)).toInt := fun q => by
    unfold ScatterDims.start
    rw [dif_pos (mem q)]
    refine congrArg (fun i => (idx i).toInt) (funext fun b => Fin.ext ?_)
    unfold ScatterDims.siIdx
    match b with
    | ⟨0, _⟩ =>
      rw [dif_neg (by rw [hv]; exact Nat.zero_ne_one)]
      unfold ScatterDims.siCoord
      rw [Fin.val_cast]
      have one : ∀ x : Fin 1, (ix1 e x : ℕ) = e.val := fun x => by obtain rfl : x = 0 := Subsingleton.elim _ _; rfl
      exact one _
    | ⟨1, _⟩ =>
      rw [dif_pos (by rw [hv])]
      show List.idxOf q d.scatterDimsToOperandDims = q.val
      rw [hs]
      exact pos q
  rw [resultIdx?_ix2, start, start, win, win]
  simp

/-- The problem's accumulating scatter and the overwriting one after it, read at a cell: from the index words of both, the marks deciding the first's updates and the
    second's rows. -/
theorem scatters_at (d : ScatterDims (shape2 10240 2048) (shape2 262144 2) (shape1 262144)) (hi : d.insertedWindowDims = [0, 1])
    (hs : d.scatterDimsToOperandDims = [0, 1]) (hv : d.indexVectorDim = 1)
    (code case : Edges) (caseY : IVec (shape1 2048) 32) (codeY : IVec (shape1 8192) 32)
    (x0 : FVec Ideal (shape2 10240 2048) .f32) (add set : IVec (shape2 262144 2) 32) (upd neg : FVec Ideal (shape1 262144) .f32)
    (hx : ∀ i, x0 i = (0 : EReal))
    (hadd : ∀ e : Fin 262144, (add (ix2 e (0 : Fin 2))).toInt = (code (ix1 e)).toNat ∧ (add (ix2 e (1 : Fin 2))).toInt = (case (ix1 e)).toNat)
    (hset : ∀ e : Fin 262144, (set (ix2 e (1 : Fin 2))).toInt = (case (ix1 e)).toNat)
    (hmark : ∀ e : Fin 262144, Marked caseY codeY (code (ix1 e)).toNat (case (ix1 e)).toNat → (set (ix2 e (0 : Fin 2))).toInt = (code (ix1 e)).toNat ∧ upd (ix1 e) = (0 : EReal))
    (hfree : ∀ e : Fin 262144, ¬ Marked caseY codeY (code (ix1 e)).toNat (case (ix1 e)).toNat → (set (ix2 e (0 : Fin 2))).toInt = 10240 ∧ upd (ix1 e) = (1 : EReal))
    (hneg : ∀ i, neg i = (-1 : EReal)) (r : Fin 10240) (c : Fin 2048) :
    Host.scatter d (fun _ b => b) (Host.scatterAdd d x0 add upd) set neg (ix2 r c) = cell code case caseY codeY r.val c.val := by
  have edge : ∀ e : Fin 262144, d.resultIdx? (ix1 e) add = some (ix2 r c) ↔ e ∈ edges code case r.val c.val := fun e => by
    rw [lands_row d hi hs hv, (hadd e).1, (hadd e).2, edges, Finset.mem_filter]
    simp only [Finset.mem_univ, true_and, Nat.cast_inj]
  -- what the overwriting scatter reaches
  have over : ∀ e : Fin 262144, d.resultIdx? (ix1 e) set = some (ix2 r c) ↔ e ∈ edges code case r.val c.val ∧ Marked caseY codeY r.val c.val := fun e => by
    rw [lands_row d hi hs hv, hset e, edges, Finset.mem_filter]
    by_cases hm : Marked caseY codeY (code (ix1 e)).toNat (case (ix1 e)).toNat
    · rw [(hmark e hm).1]
      simp only [Finset.mem_univ, true_and, Nat.cast_inj]
      exact ⟨fun h => ⟨h, h.1 ▸ h.2 ▸ hm⟩, fun h => h.1⟩
    · rw [(hfree e hm).1]
      refine ⟨fun h => ?_, fun h => absurd h.2 (h.1.2.1 ▸ h.1.2.2 ▸ hm)⟩
      have := r.isLt
      omega
  -- what the accumulating scatter leaves
  have sum : (Host.scatterAdd d x0 add upd (ix2 r c) : EReal) = ∑ e ∈ edges code case r.val c.val, upd (ix1 e) := by
    show x0 (ix2 r c) + ∑ j ∈ Finset.univ.filter (fun j => d.resultIdx? j add = some (ix2 r c)), upd j = _
    rw [hx, zero_add]
    refine Finset.sum_equiv idxEquiv1 (fun j => ?_) fun j _ => congrArg upd (eq_ix1 j)
    refine Finset.mem_filter.trans ((and_iff_right (Finset.mem_univ _)).trans ?_)
    exact (iff_of_eq (congrArg (fun k => d.resultIdx? k add = some (ix2 r c)) (eq_ix1 j))).trans (edge (j 0))
  unfold cell
  by_cases hm : Marked caseY codeY r.val c.val
  · rw [if_pos hm]
    by_cases h0 : (edges code case r.val c.val).card = 0
    · rw [if_pos h0, scatter_set_miss d _ set neg _ fun k hk => ?_]
      · refine sum.trans ?_
        rw [Finset.card_eq_zero.1 h0, Finset.sum_empty]
      · rw [eq_ix1 k] at hk
        have := ((over _).1 hk).1
        rw [Finset.card_eq_zero.1 h0] at this
        exact absurd this (Finset.notMem_empty _)
    · rw [if_neg h0]
      obtain ⟨e, he⟩ := Finset.card_pos.1 (Nat.pos_of_ne_zero h0)
      exact scatter_set_hit d _ set neg _ _ (fun k _ => hneg k) (ix1 e) ((over e).2 ⟨he, hm⟩)
  · rw [if_neg hm, scatter_set_miss d _ set neg _ fun k hk => ?_]
    · refine sum.trans ?_
      rw [Finset.sum_congr rfl fun e he => (hfree e ?_).2]
      · rw [Finset.sum_const, nsmul_one]
      · have h := (Finset.mem_filter.1 he).2
        rw [h.1, h.2]
        exact hm
    · rw [eq_ix1 k] at hk
      exact hm ((over _).1 hk).2

end Cert.Proof.Spectrum

end
-- ==== Proof.KeyValue.lean ====
/-
  What the program's buffers hold after each step, element by element: the keys, the histogram, the labels and the result.
-/
module

public import proofs.«01_k».proof.Proof.Frames
public import proofs.«01_k».proof.Proof.Spectrum
public import Idealize.ShloMosaic.Lib.Pipeline.ValueKit.Geometry

@[expose] public section

noncomputable section

namespace Cert.Proof

open Cert.KernelIdeal Cert.KernelIdeal.Gen

open Idealize.ShloMosaic Idealize.ShloMosaic.TcCoe Idealize.ShloMosaic.StableHlo Idealize.ShloMosaic.ValueIdx
open Idealize.SL.Sem
open Idealize.ShloMosaic.Pipeline (ucRefs afterRegion)

variable {F : FTy → Type} [FloatOps F]

variable (m : (ℓ : Loc nD τ sig) → Buf (Elt F) ℓ)

/-! ## The keys -/

theorem index0_0 : ∀ t : Fin cfg0.N, (win0_0.index t) = fun _ => 0 := by decide +kernel
theorem index0_1 : ∀ t : Fin cfg0.N, (win0_1.index t) = fun _ => 0 := by decide +kernel
theorem index0_2 : ∀ t : Fin cfg0.N, (win0_2.index t) = fun _ => 0 := by decide +kernel

theorem in0_0_eq (W : Valuation τ sig (Elt F)) (t : Fin cfg0.N) : in0_0 W t = W (Proc.devRef .tc main_v0) := by
  funext y
  blk_ext [in0_0, index0_0]

theorem in0_1_eq (W : Valuation τ sig (Elt F)) (t : Fin cfg0.N) : in0_1 W t = W (Proc.devRef .tc main_v1) := by
  funext y
  blk_ext [in0_1, index0_1]

theorem V1_key (d : Dev nD) : V1 m d (Proc.devRef .tc main_v2) = k0_pay1 (V0 m d (Proc.devRef .tc main_v1)) (V0 m d (Proc.devRef .tc main_v0)) := by
  refine (Pipeline.afterRegion_arr (dat0 (V0 m) d) (V0 m d) winFacts0.arr_inj 2).trans ?_
  refine (dat0 (V0 m) d).arrAt_eq_of_covers 2 _ (by decide +kernel) fun t hf y => ?_
  show k0_pay1 (in0_1 (V0 m d) t) (in0_0 (V0 m d) t) _ = _
  rw [in0_0_eq, in0_1_eq]
  blk_ext [index0_2]

/-- The key of an edge: its code and its case, as one word. -/
def edgeKey (code case : IVec S262144 32) : IVec S262144 32 := fun i => code i * 2048#32 + case i

theorem V0_case (d : Dev nD) : V0 m d (Proc.devRef .tc main_v0) = shapeCast S256x1024 (m (d, Proc.devRef .tc main_arg0)) shapeCasts_S262144_S256x1024 := by
  unfold V0 opA opB
  rw [reshape_result_ne (h := by decide), reshape_result]
  rfl

theorem V0_code (d : Dev nD) : V0 m d (Proc.devRef .tc main_v1) = shapeCast S256x1024 (m (d, Proc.devRef .tc main_arg1)) shapeCasts_S262144_S256x1024 := by
  unfold V0 opA opB
  rw [reshape_result, reshape_result_ne (h := by decide)]
  rfl

/-- The keys handed to the SparseCore call are the edges' keys. -/
theorem keys_eq (d : Dev nD) : keys m d = edgeKey (m (d, Proc.devRef .tc main_arg1)) (m (d, Proc.devRef .tc main_arg0)) := by
  unfold keys V2 opC
  rw [reshape_result]
  show shapeCast S262144 (V1 m d (Proc.devRef .tc main_v2)) shapeCasts_S256x1024_S262144 = _
  rw [V1_key, V0_case, V0_code]
  unfold k0_pay1
  funext i
  show IntOp.addi (IntOp.muli (shapeCast S262144 (shapeCast S256x1024 (shapeCast S256x1024 (m (d, Proc.devRef .tc main_arg1)) _) _) shapeCasts_S256x1024_S262144 i) 2048#32)
    (shapeCast S262144 (shapeCast S256x1024 (shapeCast S256x1024 (m (d, Proc.devRef .tc main_arg0)) _) _) shapeCasts_S256x1024_S262144 i) = _
  rw [shapeCast_self, shapeCast_self, shapeCast_shapeCast, shapeCast_shapeCast]
  rfl

/-! ## The histogram and the labels -/

theorem V3_arg (d : Dev nD) (r : Ref sig .tc) (h : ∀ x ∈ [main_v0, main_v1, main_v2, main_v3, main_v4], r ≠ x) :
    V3 m d (Proc.devRef .tc r) = m (d, Proc.devRef .tc r) := by
  rw [V3_keeps m d r (h _ (by decide))]
  unfold V2 opC
  rw [reshape_result_ne (h := h main_v3 (by decide)), V1_keeps m d r (h _ (by decide))]
  unfold V0 opA opB
  rw [reshape_result_ne (h := h main_v1 (by decide)), reshape_result_ne (h := h main_v0 (by decide))]
  rfl

theorem V4_hist (d : Dev nD) : V4 m d (Proc.devRef .tc main_v5) = shapeCast S8320x2048 (histBuf (keys m) d) shapeCasts_S17039360_S8320x2048 := by
  unfold V4 opE opG opH opI opJ
  rw [reshape_result_ne (h := by decide), unary_result_ne (h := by decide), reshape_result_ne (h := by decide), unary_result_ne (h := by decide), reshape_result]
  show shapeCast S8320x2048 (V3 m d h') _ = _
  rw [V3_h]

theorem V4_code (d : Dev nD) : V4 m d (Proc.devRef .tc main_v7) = shapeCast S8192x1 (sitofp .f32 (m (d, Proc.devRef .tc main_arg3) : IVec S8192 32)) shapeCasts_S8192_S8192x1 := by
  unfold V4 opE opG opH opI opJ
  rw [reshape_result_ne (h := by decide), unary_result_ne (h := by decide), reshape_result, unary_result, reshape_result_ne (h := by decide)]
  show shapeCast S8192x1 (sitofp .f32 (V3 m d (Proc.devRef .tc main_arg3))) _ = _
  rw [V3_arg m d main_arg3 (by decide)]

theorem V4_case (d : Dev nD) : V4 m d (Proc.devRef .tc main_v9) = shapeCast S1x2048 (sitofp .f32 (m (d, Proc.devRef .tc main_arg2) : IVec S2048 32)) shapeCasts_S2048_S1x2048 := by
  unfold V4 opE opG opH opI opJ
  rw [reshape_result, unary_result, reshape_result_ne (h := by decide), unary_result_ne (h := by decide), reshape_result_ne (h := by decide)]
  show shapeCast S1x2048 (sitofp .f32 (V3 m d (Proc.devRef .tc main_arg2))) _ = _
  rw [V3_arg m d main_arg2 (by decide)]

/-! ## The result -/

/-- The last kernel at one cell: from the cell's count and its two labels. -/
def cellOf (h : BitVec 32) (ay cy : F .f32) : F .f32 :=
  Scalar.select (FloatOps.cmpf .oeq (FloatOps.mulf ay cy) (FloatOps.ofBits (F := F) .f32 0x3F800000#32))
    (Scalar.select (FloatOps.cmpf .ogt (FloatOps.sitofp (F := F) .f32 h) (FloatOps.ofBits (F := F) .f32 0x00000000#32)) (FloatOps.ofBits (F := F) .f32 0xBF800000#32) (FloatOps.ofBits (F := F) .f32 0x00000000#32))
    (FloatOps.sitofp .f32 h)

theorem pay1_at (h : Vec F S512x2048 .i32) (ay : Vec F S512x1 .f32) (cy : Vec F S1x2048 .f32) (y : S512x2048.Idx) :
    k2_pay1 h ay cy y = cellOf (h y) (ay (ix2 (y 0) (0 : Fin 1))) (cy (ix2 (0 : Fin 1) (y 1))) := by
  unfold k2_pay1
  have e1 : broadcastTo S512x2048 ay broadcasts_S512x1_S512x2048 y = ay (ix2 (y 0) (0 : Fin 1)) :=
    broadcastTo_apply _ _ _ _ fun a => match a with | ⟨0, _⟩ => rfl | ⟨1, _⟩ => rfl
  have e2 : broadcastTo S512x2048 cy broadcasts_S1x2048_S512x2048 y = cy (ix2 (0 : Fin 1) (y 1)) :=
    broadcastTo_apply _ _ _ _ fun a => match a with | ⟨0, _⟩ => rfl | ⟨1, _⟩ => rfl
  rw [shapeCast_self, shapeCast_self, shapeCast_self, ← e1, ← e2]
  rfl

/-- The result as one function of the histogram and the labels. -/
def resultOf (h : IVec S8320x2048 32) (ay : FVec F S8192x1 .f32) (cy : FVec F S1x2048 .f32) : FVec F S10240x2048 .f32 := fun i =>
  if hr : (i 0 : ℕ) < 8192 then cellOf (h (ix2 (⟨(i 0 : ℕ), by omega⟩ : Fin 8320) (i 1))) (ay (ix2 (⟨(i 0 : ℕ), hr⟩ : Fin 8192) (0 : Fin 1))) (cy (ix2 (0 : Fin 1) (i 1)))
  else FloatOps.ofBits (F := F) .f32 0x00000000#32

theorem index2_0 : ∀ t : Fin cfg2.N, win2_0.index t = ![min t.val 15, 0] := by decide +kernel
theorem index2_1 : ∀ t : Fin cfg2.N, win2_1.index t = ![min t.val 15, 0] := by decide +kernel
theorem index2_2 : ∀ t : Fin cfg2.N, win2_2.index t = ![0, 0] := by decide +kernel
theorem index2_3 : ∀ t : Fin cfg2.N, win2_3.index t = ![t.val, 0] := by decide +kernel
theorem cond2 : ∀ t : Fin cfg2.N, k2_cond1 (grid2.coords t) = 1#1 ↔ t.val < 16 := by decide +kernel

theorem in2_0_at (W : Valuation τ sig (Elt F)) (t : Fin cfg2.N) (ht : t.val < 16) (y : S512x2048.Idx) :
    in2_0 W t y = (W (Proc.devRef .tc main_v5) : IVec S8320x2048 32) (ix2 (⟨t.val * 512 + (y 0 : ℕ), by idx_bounds y; omega⟩ : Fin 8320) (y 1)) := by
  have hm : (cfg2.win 0).moved (cfg2.grid.coords t) y = true :=
    ((cfg2.win 0).moved_iff _ y).mpr fun a => by have := (y a).isLt; unfold Pipeline.Window.xsize; rw [clip2_0 _ a]; exact this
  unfold in2_0 Pipeline.Window.fill
  rw [dif_pos hm]
  blk_ext [index2_0]

theorem in2_1_at (W : Valuation τ sig (Elt F)) (t : Fin cfg2.N) (ht : t.val < 16) (y : S512x1.Idx) :
    in2_1 W t y = (W (Proc.devRef .tc main_v7) : FVec F S8192x1 .f32) (ix2 (⟨t.val * 512 + (y 0 : ℕ), by idx_bounds y; omega⟩ : Fin 8192) (0 : Fin 1)) := by
  blk_ext [in2_1, index2_1]

theorem in2_2_eq (W : Valuation τ sig (Elt F)) (t : Fin cfg2.N) : in2_2 W t = W (Proc.devRef .tc main_v9) := by
  funext y
  blk_ext [in2_2, index2_2]

theorem V5_result (d : Dev nD) : V5 m d (Proc.devRef .tc main_v10)
    = resultOf (V4 m d (Proc.devRef .tc main_v5)) (V4 m d (Proc.devRef .tc main_v7)) (V4 m d (Proc.devRef .tc main_v9)) := by
  refine (Pipeline.afterRegion_arr (dat2 (V4 m) d) (V4 m d) winFacts2.arr_inj 3).trans ?_
  refine (dat2 (V4 m) d).arrAt_eq_of_covers 3 _ (by decide +kernel) fun t hf y => ?_
  have hy : ((cfg2.win 3).blk t).view.emb y = (ix2 (⟨t.val * 512 + (y 0 : ℕ), by have : t.val < 20 := t.isLt; idx_bounds y; omega⟩ : Fin 10240) (y 1 : Fin 2048) : S10240x2048.Idx) := by
    blk_ext [index2_3]
  rw [hy]
  show out2 (V4 m d) t y = _
  unfold out2 resultOf
  have hy0 : (y 0 : ℕ) < 512 := (y 0).isLt
  by_cases ht : t.val < 16
  · rw [if_pos ((cond2 t).2 ht), pay1_at, in2_0_at _ _ ht, in2_1_at _ _ ht, in2_2_eq, dif_pos (show t.val * 512 + (y 0 : ℕ) < 8192 by omega)]
  · rw [if_neg fun h => ht ((cond2 t).1 h), dif_neg (show ¬ t.val * 512 + (y 0 : ℕ) < 8192 by omega)]
    rfl

end Cert.Proof

end
-- ==== Proof.RefValue.lean ====
/-
  The reference's array, read at a cell, when every edge names a code and a case there is.
-/
module

public import proofs.«01_k».proof.Proof.Gen.ReferenceIdeal.Run
public import proofs.«01_k».proof.Proof.Spectrum
public import Idealize.ShloMosaic.Lib.Pipeline.Value

@[expose] public section

noncomputable section

namespace Cert.Proof.Spectrum

open Idealize.ShloMosaic Idealize.ShloMosaic.TcCoe Idealize.ShloMosaic.ValueIdx Idealize.ShloMosaic.Routing

/-! ## The index tables -/

/-- A vector stood up as a column. -/
theorem column_at (x : Edges) (h : (shape1 262144).BroadcastsInDim (shape2 262144 1) ![0]) (e : Fin 262144) :
    broadcastInDim (shape2 262144 1) ![0] h x (ix2 e (0 : Fin 1)) = x (ix1 e) :=
  broadcastInDim_apply ![0] h x _ _ fun a => match a with
    | ⟨0, _⟩ => (if_neg (show ¬ (262144 : ℕ) = 1 by omega)).symm

/-- Two vectors side by side, read in the first. -/
theorem table_left (x y : Edges) (h : (shape1 262144).BroadcastsInDim (shape2 262144 1) ![0])
    (hc : Shape.Concatenates [shape2 262144 1, shape2 262144 1] (shape2 262144 2) 1) (e : Fin 262144) :
    concatenate (shape2 262144 2) 1 [⟨shape2 262144 1, broadcastInDim (shape2 262144 1) ![0] h x⟩, ⟨shape2 262144 1, broadcastInDim (shape2 262144 1) ![0] h y⟩] hc
      (ix2 e (0 : Fin 2)) = x (ix1 e) :=
  (concatenate_pair_apply_left 1 _ _ hc _ rfl (ix2 e (0 : Fin 1)) fun b => match b with
    | ⟨0, _⟩ => rfl
    | ⟨1, _⟩ => rfl).trans (column_at x h e)

/-- The same, read in the second. -/
theorem table_right (x y : Edges) (h : (shape1 262144).BroadcastsInDim (shape2 262144 1) ![0])
    (hc : Shape.Concatenates [shape2 262144 1, shape2 262144 1] (shape2 262144 2) 1) (e : Fin 262144) :
    concatenate (shape2 262144 2) 1 [⟨shape2 262144 1, broadcastInDim (shape2 262144 1) ![0] h x⟩, ⟨shape2 262144 1, broadcastInDim (shape2 262144 1) ![0] h y⟩] hc
      (ix2 e (1 : Fin 2)) = y (ix1 e) :=
  (concatenate_pair_apply_right 1 _ _ hc _ rfl rfl (ix2 e (0 : Fin 1)) (fun b hb => match b with
    | ⟨0, _⟩ => rfl
    | ⟨1, _⟩ => absurd rfl hb) rfl).trans (column_at y h e)

/-- An index that is not negative is left as it is by the turn of negative indices. -/
theorem turned (x y : Edges) (h : shape0.BroadcastsInDim (shape1 262144) ![]) (i : (shape1 262144).Idx) (hx : (x i).toNat < 2 ^ 31) :
    select (cmpi .slt x (broadcastInDim (shape1 262144) ![] h (constantI shape0 32 0#32))) y x i = x i :=
  wrap_of_lt (x i) (y i) hx

/-- The same, of the whole vector. -/
theorem turned_all (x y : Edges) (h : shape0.BroadcastsInDim (shape1 262144) ![]) (hx : ∀ i, (x i).toNat < 2 ^ 31) :
    select (cmpi .slt x (broadcastInDim (shape1 262144) ![] h (constantI shape0 32 0#32))) y x = x :=
  funext fun i => turned x y h i (hx i)

/-- A word is the word of its number. -/
theorem word_eq (x : BitVec 32) : x = BitVec.ofNat 32 x.toNat := by rw [BitVec.ofNat_toNat, BitVec.setWidth_eq]

theorem bit_zero : ∀ b : BitVec 1, b ≠ 1#1 → b = 0#1 := by decide

/-! ## The marks -/

section Marks
variable (code case : Edges) (caseY : IVec (shape1 2048) 32) (codeY : IVec (shape1 8192) 32)
variable (hcode : ∀ i, (code i).toNat < 8192) (hcase : ∀ i, (case i).toNat < 2048)
include hcode hcase

/-- The reference's mark of an edge: both labels taken at its ends are one. -/
theorem mark_at (g1 : GatherDims (shape1 2048) (shape2 262144 1) (shape1 262144)) (g2 : GatherDims (shape1 8192) (shape2 262144 1) (shape1 262144))
    (h1 : g1.collapsedSliceDims = [0] ∧ g1.operandBatchingDims = [] ∧ g1.startIndexMap = [0] ∧ g1.indexVectorDim = 1)
    (h2 : g2.collapsedSliceDims = [0] ∧ g2.operandBatchingDims = [] ∧ g2.startIndexMap = [0] ∧ g2.indexVectorDim = 1)
    (h : (shape1 262144).BroadcastsInDim (shape2 262144 1) ![0]) (hb : shape0.BroadcastsInDim (shape1 262144) ![]) (e : Fin 262144) :
    andi (cmpi .eq (Host.gather g1 caseY (broadcastInDim (shape2 262144 1) ![0] h case)) (broadcastInDim (shape1 262144) ![] hb (constantI shape0 32 1#32)))
        (cmpi .eq (Host.gather g2 codeY (broadcastInDim (shape2 262144 1) ![0] h code)) (broadcastInDim (shape1 262144) ![] hb (constantI shape0 32 1#32))) (ix1 e)
      = 1#1 ↔ Marked caseY codeY (code (ix1 e)).toNat (case (ix1 e)).toNat := by
  have t1 : Host.gather g1 caseY (broadcastInDim (shape2 262144 1) ![0] h case) (ix1 e) = caseY (ix1 ⟨_, hcase (ix1 e)⟩) :=
    gather_take1 g1 h1.1 h1.2.1 h1.2.2.1 h1.2.2.2 caseY _ e ⟨_, hcase (ix1 e)⟩ ((column_at case h e).trans (word_eq _)) (by norm_num)
  have t2 : Host.gather g2 codeY (broadcastInDim (shape2 262144 1) ![0] h code) (ix1 e) = codeY (ix1 ⟨_, hcode (ix1 e)⟩) :=
    gather_take1 g2 h2.1 h2.2.1 h2.2.2.1 h2.2.2.2 codeY _ e ⟨_, hcode (ix1 e)⟩ ((column_at code h e).trans (word_eq _)) (by norm_num)
  show IntOp.andi (IntOp.cmpi .eq (Host.gather g1 caseY (broadcastInDim (shape2 262144 1) ![0] h case) (ix1 e)) 1#32)
    (IntOp.cmpi .eq (Host.gather g2 codeY (broadcastInDim (shape2 262144 1) ![0] h code) (ix1 e)) 1#32) = 1#1 ↔ _
  rw [t1, t2, WordCmp.cmpi_eq_eq, WordCmp.cmpi_eq_eq, WordCmp.andi_ofBool, WordCmp.ofBool_eq_one_iff, Bool.and_eq_true, decide_eq_true_iff, decide_eq_true_iff]
  exact ⟨fun q => ⟨hcode _, hcase _, q.1, q.2⟩, fun ⟨_, _, p, q⟩ => ⟨p, q⟩⟩

end Marks

theorem one_word : (Ideal.ofBits .f32 0x3F800000#32 : EReal) = 1 := by simp [Ideal.ofBits, Ideal.ieee, -EReal.coe_mul]; norm_num
theorem zero_word : (Ideal.ofBits .f32 0x00000000#32 : EReal) = 0 := by simp [Ideal.ofBits, Ideal.ieee]
theorem neg_word : (Ideal.ofBits .f32 0xBF800000#32 : EReal) = -1 := by simp [Ideal.ofBits, Ideal.ieee, -EReal.coe_mul]; norm_num

/-! ## The reference -/

open Cert.ReferenceIdeal Cert.ReferenceIdeal.Gen Cert.ReferenceIdeal.Value in
/-- The reference's array at a cell. -/
theorem reference_at (m : (ℓ : Loc nD τ sig) → Buf (Elt Ideal) ℓ) (d : Dev nD) (code case : Edges) (caseY : IVec (shape1 2048) 32) (codeY : IVec (shape1 8192) 32)
    (e0 : m ((d.tc : Thread nD τ).loc main_arg0) = case) (e1 : m ((d.tc : Thread nD τ).loc main_arg1) = code)
    (e2 : m ((d.tc : Thread nD τ).loc main_arg2) = caseY) (e3 : m ((d.tc : Thread nD τ).loc main_arg3) = codeY)
    (hcode : ∀ i, (code i).toNat < 8192) (hcase : ∀ i, (case i).toNat < 2048) (r : Fin 10240) (c : Fin 2048) :
    (res_main_v51 (F := Ideal) m d : FVec Ideal (shape2 10240 2048) .f32) (ix2 r c) = cell code case caseY codeY r.val c.val := by
  unfold res_main_v51
  rw [e0, e1, e2, e3]
  have hcode' : ∀ i, (code i).toNat < 2 ^ 31 := fun i => (hcode i).trans (by norm_num)
  have hcase' : ∀ i, (case i).toNat < 2 ^ 31 := fun i => (hcase i).trans (by norm_num)
  have s1 : ∀ i, (code i).toInt = (code i).toNat := fun i => WordCmp.toInt_eq_toNat_of_lt_half (hcode' i)
  have s0 : ∀ i, (case i).toInt = (case i).toNat := fun i => WordCmp.toInt_eq_toNat_of_lt_half (hcase' i)
  have marks := mark_at code case caseY codeY hcode hcase gather_S2048_S262144x1_S262144_n_0_n_n_0_1_1 gather_S8192_S262144x1_S262144_n_0_n_n_0_1_1
    ⟨rfl, rfl, rfl, rfl⟩ ⟨rfl, rfl, rfl, rfl⟩ bcast_S262144_S262144x1_0 bcast_S_S262144
  refine scatters_at _ rfl rfl rfl code case caseY codeY _ _ _ _ _ (fun _ => zero_word) (fun e => ?_) (fun e => ?_) (fun e hm => ?_) (fun e hm => ?_)
    (fun _ => neg_word) r c
  · rw [table_left, table_right, turned _ _ _ _ (hcode' _), turned _ _ _ _ (hcase' _)]
    exact ⟨s1 _, s0 _⟩
  · rw [table_right, turned _ _ _ _ (hcase' _)]
    exact s0 _
  · rw [table_left, turned_all case _ _ hcase', turned_all code _ _ hcode']
    have hk := (marks e).2 hm
    rw [turned _ _ _ _ (lt_of_eq_of_lt (congrArg BitVec.toNat (WordCmp.select_of_eq_one hk _ _)) (hcode' (ix1 e)))]
    exact ⟨(congrArg BitVec.toInt (WordCmp.select_of_eq_one hk _ _)).trans (s1 _), (WordCmp.select_of_eq_one hk _ _).trans zero_word⟩
  · rw [table_left, turned_all case _ _ hcase', turned_all code _ _ hcode']
    have hk := bit_zero _ fun q => hm ((marks e).1 q)
    rw [turned _ _ _ _ (lt_of_eq_of_lt (congrArg BitVec.toNat (WordCmp.select_of_eq_zero hk _ _)) (show (10240#32).toNat < 2 ^ 31 by decide))]
    exact ⟨congrArg BitVec.toInt (WordCmp.select_of_eq_zero hk _ _), (WordCmp.select_of_eq_zero hk _ _).trans one_word⟩

end Cert.Proof.Spectrum

end
-- ==== Proof.Equal.lean ====
/-
  The kernel's result over the reals, read at a cell, is the spectrum's cell, and so the reference's: the value claim.
-/
module

public import proofs.«01_k».proof.Proof.KeyValue
public import proofs.«01_k».proof.Proof.RefValue
public import proofs.«01_k».proof.Proof.RefFrame
public import Idealize.ShloMosaic.Lib.WordCmp

@[expose] public section

noncomputable section

namespace Cert.Proof

open Cert.KernelIdeal Cert.KernelIdeal.Gen Cert.Proof.Spectrum

open Idealize.ShloMosaic Idealize.ShloMosaic.TcCoe Idealize.ShloMosaic.StableHlo Idealize.ShloMosaic.ValueIdx Idealize.ShloMosaic.Routing
open Idealize.SL.Sem

/-! ## The count -/

/-- An edge's key is a cell's number exactly when its code is the cell's row and its case the cell's column. -/
theorem key_eq_iff (x y : BitVec 32) (hx : x.toNat < 8192) (hy : y.toNat < 2048) (r c : ℕ) (hr : r < 8320) (hc : c < 2048) :
    x * 2048#32 + y - 0#32 = BitVec.ofNat 32 (r * 2048 + c) ↔ x.toNat = r ∧ y.toNat = c := by
  have e : (x * 2048#32 + y - 0#32).toNat = x.toNat * 2048 + y.toNat := by
    rw [BitVec.sub_zero, BitVec.toNat_add, BitVec.toNat_mul]
    show (x.toNat * 2048 % 2 ^ 32 + y.toNat) % 2 ^ 32 = _
    omega
  rw [← BitVec.toNat_inj, e, BitVec.toNat_ofNat]
  omega

/-- The number of keys naming a cell is the number of edges from its row's code to its column's case. -/
theorem hits_edges (code case : Edges) (hcode : ∀ i, (code i).toNat < 8192) (hcase : ∀ i, (case i).toNat < 2048) (r c : ℕ) (hr : r < 8320) (hc : c < 2048) :
    Step.hits (keyOf (edgeKey code case)) 0#32 262144 (r * 2048 + c) = (edges code case r c).card := by
  have at_key : ∀ (e : ℕ) (h : e < 262144), keyOf (edgeKey code case) e = code (ix1 ⟨e, h⟩) * 2048#32 + case (ix1 ⟨e, h⟩) := fun e h => by
    unfold keyOf
    rw [dif_pos h]
    exact congrArg (edgeKey code case) (funext fun a => match a with | ⟨0, _⟩ => rfl)
  refine (Finset.card_bij (fun e _ => e.val) (fun e he => ?_) (fun a _ b _ hab => Fin.ext hab) (fun e he => ?_)).symm
  · rw [Finset.mem_filter, Finset.mem_range, at_key _ e.isLt]
    exact ⟨e.isLt, (key_eq_iff _ _ (hcode _) (hcase _) r c hr hc).2 (Finset.mem_filter.1 he).2⟩
  · rw [Finset.mem_filter, Finset.mem_range] at he
    refine ⟨⟨e, he.1⟩, Finset.mem_filter.2 ⟨Finset.mem_univ _, ?_⟩, rfl⟩
    have hk := he.2
    rw [at_key _ he.1] at hk
    exact (key_eq_iff _ _ (hcode _) (hcase _) r c hr hc).1 hk

/-! ## One cell over the reals -/

/-- Two words' product is one, the second word not negative, exactly when both words are one. -/
theorem product_one (x y : BitVec 32) (hy : 0 ≤ y.toInt) : ((x.toInt : ℝ) : EReal) * ((y.toInt : ℝ) : EReal) = 1 ↔ y = 1#32 ∧ x = 1#32 := by
  have one : ∀ z : BitVec 32, z.toInt = 1 ↔ z = 1#32 := fun z => by
    rw [← BitVec.toInt_inj]
    exact Iff.rfl
  rw [← EReal.coe_mul, ← EReal.coe_one, EReal.coe_eq_coe_iff, ← Int.cast_mul, ← one, ← one]
  constructor
  · intro h
    have hz : x.toInt * y.toInt = 1 := by exact_mod_cast h
    rcases Int.mul_eq_one_iff_eq_one_or_neg_one.1 hz with q | q
    · exact ⟨q.2, q.1⟩
    · omega
  · intro h
    rw [h.1, h.2]
    norm_num

/-- The last kernel at one cell of count `n`. -/
theorem cellOf_ideal (n : ℕ) (hn : n ≤ 262144) (x y : BitVec 32) (hy : 0 ≤ y.toInt) :
    cellOf (F := Ideal) (BitVec.ofNat 32 n) ((x.toInt : ℝ) : EReal) ((y.toInt : ℝ) : EReal)
      = open Classical in if y = 1#32 ∧ x = 1#32 then if n = 0 then 0 else -1 else (n : EReal) := by
  have cnt : (FloatOps.sitofp (F := Ideal) .f32 (BitVec.ofNat 32 n) : EReal) = (n : EReal) := by
    show (((BitVec.ofNat 32 n).toInt : ℝ) : EReal) = _
    rw [WordCmp.toInt_ofNat_of_lt (show n < 2 ^ 31 by omega), Int.cast_natCast]
    rfl
  unfold cellOf
  rw [cnt]
  show Scalar.select (BitVec.ofBool (decide (((x.toInt : ℝ) : EReal) * ((y.toInt : ℝ) : EReal) = Ideal.ofBits .f32 0x3F800000#32)))
    (Scalar.select (BitVec.ofBool (decide (Ideal.ofBits .f32 0x00000000#32 < (n : EReal)))) (Ideal.ofBits .f32 0xBF800000#32) (Ideal.ofBits .f32 0x00000000#32)) (n : EReal) = _
  rw [WordCmp.select_decide, WordCmp.select_decide, one_word, zero_word, neg_word]
  refine if_congr (product_one x y hy) ?_ rfl
  by_cases h0 : n = 0
  · rw [if_pos h0, if_neg (by rw [h0, Nat.cast_zero]; exact lt_irrefl _)]
  · rw [if_neg h0, if_pos (by exact_mod_cast Nat.pos_of_ne_zero h0)]

/-! ## The kernel's result -/

/-- The kernel's array at a cell. -/
theorem kernel_at (m : (ℓ : Loc nD τ sig) → Buf (Elt Ideal) ℓ) (d : Dev nD) (code case : Edges) (caseY : IVec (shape1 2048) 32) (codeY : IVec (shape1 8192) 32)
    (e0 : m (d, Proc.devRef .tc main_arg0) = case) (e1 : m (d, Proc.devRef .tc main_arg1) = code)
    (e2 : m (d, Proc.devRef .tc main_arg2) = caseY) (e3 : m (d, Proc.devRef .tc main_arg3) = codeY)
    (hcode : ∀ i, (code i).toNat < 8192) (hcase : ∀ i, (case i).toNat < 2048) (hy : ∀ i, 0 ≤ (caseY i).toInt) (r : Fin 10240) (c : Fin 2048) :
    (V5 m d (Proc.devRef .tc main_v10) : FVec Ideal (shape2 10240 2048) .f32) (ix2 r c) = cell code case caseY codeY r.val c.val := by
  classical
  rw [V5_result, V4_hist, V4_code, V4_case, e2, e3]
  unfold histBuf
  rw [keys_eq, e0, e1]
  unfold resultOf cell
  by_cases hr : r.val < 8192
  · have hh : shapeCast S8320x2048 (histOf (keyOf (edgeKey code case))) shapeCasts_S17039360_S8320x2048 (ix2 (⟨r.val, by omega⟩ : Fin 8320) c)
        = BitVec.ofNat 32 (edges code case r.val c.val).card := by
      refine (shapeCast_apply _ _ _ (ix1 (⟨r.val * 2048 + c.val, by omega⟩ : Fin 17039360)) ?_).trans ?_
      · rw [Shape.rowMajor_val_one, Shape.rowMajor_val_two]
        rfl
      · exact congrArg (BitVec.ofNat 32) (hits_edges code case hcode hcase r.val c.val (by omega) c.isLt)
    have ha : shapeCast S8192x1 (sitofp (F := Ideal) .f32 (codeY : IVec S8192 32)) shapeCasts_S8192_S8192x1 (ix2 (⟨r.val, hr⟩ : Fin 8192) (0 : Fin 1))
        = (((codeY (ix1 ⟨r.val, hr⟩)).toInt : ℝ) : EReal) := by
      refine (shapeCast_apply _ _ _ (ix1 (⟨r.val, hr⟩ : Fin 8192)) ?_).trans rfl
      rw [Shape.rowMajor_val_one, Shape.rowMajor_val_two]
      exact (Nat.mul_one r.val).symm
    have hb : shapeCast S1x2048 (sitofp (F := Ideal) .f32 (caseY : IVec S2048 32)) shapeCasts_S2048_S1x2048 (ix2 (0 : Fin 1) c)
        = (((caseY (ix1 c)).toInt : ℝ) : EReal) := by
      refine (shapeCast_apply _ _ _ (ix1 c) ?_).trans rfl
      rw [Shape.rowMajor_val_one, Shape.rowMajor_val_two]
      show c.val = 0 * 2048 + c.val
      omega
    refine (dif_pos hr).trans ?_
    refine (congr (congr (congrArg cellOf hh) ha) hb).trans ?_
    rw [cellOf_ideal _ (by simpa using Finset.card_le_univ (edges code case r.val c.val)) _ _ (hy _)]
    exact if_congr ⟨fun q => ⟨hr, c.isLt, q⟩, fun ⟨_, _, q⟩ => q⟩ rfl rfl
  · refine (dif_neg hr).trans ?_
    have none : (edges code case r.val c.val).card = 0 := Finset.card_eq_zero.2 (Finset.filter_eq_empty_iff.2 fun e _ q => hr (q.1 ▸ hcode _))
    refine zero_word.trans (Eq.symm ?_)
    rw [if_neg (fun q => hr q.1), none, Nat.cast_zero]

/-! ## The precondition -/

instance preFacts : Cert.Pre_in_range.Facts where
  bcast_S_S262144 := by decide
  bcast_S_S2048 := by decide

/-- A word between zero and a bound, both compared signed, is below the bound. -/
theorem word_lt (k : ℕ) (hk : k < 2 ^ 31) (x : BitVec 32) (h : IntOp.andi (IntOp.cmpi .sge x 0#32) (IntOp.cmpi .slt x (BitVec.ofNat 32 k)) = 1#1) : x.toNat < k := by
  rw [WordCmp.andi_sge_zero_slt_ofNat hk, WordCmp.ofBool_eq_one_iff] at h
  exact of_decide_eq_true h

/-- The precondition, in numbers. -/
theorem in_range_iff (case code : IVec S262144 32) (caseY : IVec S2048 32) (codeY : IVec S8192 32)
    (h0 : (Cert.Pre_in_range.fn (F := Ideal) case code caseY codeY).1 = fun _ => 1#1)
    (h1 : (Cert.Pre_in_range.fn (F := Ideal) case code caseY codeY).2.1 = fun _ => 1#1)
    (h2 : (Cert.Pre_in_range.fn (F := Ideal) case code caseY codeY).2.2 = fun _ => 1#1) :
    (∀ i, (code i).toNat < 8192) ∧ (∀ i, (case i).toNat < 2048) ∧ ∀ i, 0 ≤ (caseY i).toInt := by
  refine ⟨fun i => word_lt 8192 (by norm_num) _ (congrFun h1 i), fun i => word_lt 2048 (by norm_num) _ (congrFun h0 i), fun i => ?_⟩
  have h : IntOp.cmpi .sge (caseY i) 0#32 = 1#1 := congrFun h2 i
  rw [WordCmp.cmpi_sge_eq, WordCmp.ofBool_decide_eq_one_iff] at h
  exact h

/-! ## The value claim -/

/-- Over the reals, from arguments in range, the kernel's result is the reference's. -/
theorem values_equal : Cert.algebraic_KernelIdeal_ReferenceIdeal_pre_in_range (hKernelIdeal := Cert.KernelIdeal.Gen.facts)
    (hReferenceIdeal := Cert.ReferenceIdeal.Gen.facts) (hPre_in_range := preFacts) := fun m g m' g' pre same => by
  refine ⟨fun c => V5 m c (Proc.devRef .tc main_v10), ?_, ?_⟩
  · exact (θ_run Cert.KernelIdeal.defs _ _).mono (fun r h c => ⟨h.1 c (Proc.devRef .tc main_v10) (by decide), args_kept m r h c⟩) (run_main (F := Ideal) m g)
  · refine (θ_run Cert.ReferenceIdeal.defs _ _).mono (fun r h c => ⟨(h c).1.trans ?_, (h c).2⟩) (Cert.ReferenceIdeal.Value.run (F := Ideal) m' g')
    obtain ⟨hcode, hcase, hy⟩ := in_range_iff _ _ _ _ (pre c).1 (pre c).2.1 (pre c).2.2
    refine funext fun i => ?_
    rw [show i = ix2 (i 0 : Fin 10240) (i 1 : Fin 2048) from funext fun a => match a with | ⟨0, _⟩ => rfl | ⟨1, _⟩ => rfl]
    exact (reference_at m' c _ _ _ _ (same c).1 (same c).2.1 (same c).2.2.1 (same c).2.2.2 hcode hcase (i 0) (i 1)).trans
      (kernel_at m c _ _ _ _ rfl rfl rfl rfl hcode hcase hy (i 0) (i 1)).symm

end Cert.Proof

end
-- ==== Proof.lean ====
/-
  The certificate: each claim from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Frames
public import proofs.«01_k».proof.Proof.RefFrame
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, preFacts,
  frame_kernel, frame_kernelIdeal, fun m ρ _ => frame_kernelIdeal m ρ trivial, frame_referenceIdeal, fun m ρ _ => frame_referenceIdeal m ρ trivial,
  trivial, values_equal⟩

end Cert.Proof

end
